-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clip_idle_KernelIdeal [hPre_clip_idle_KernelIdeal : Cert.Pre_clip_idle_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_clip_idle_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clip_idle_ReferenceIdeal [hPre_clip_idle_ReferenceIdeal : Cert.Pre_clip_idle_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clip_idle_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_clip_idle_KernelIdeal [hKernelIdeal : Cert.KernelIdeal.Facts] [hPre_clip_idle_KernelIdeal : Cert.Pre_clip_idle_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clip_idle_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_clip_idle_ReferenceIdeal [hReferenceIdeal : Cert.ReferenceIdeal.Facts] [hPre_clip_idle_ReferenceIdeal : Cert.Pre_clip_idle_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clip_idle_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_clip_idle_KernelIdeal [hKernelIdeal : Cert.KernelIdeal.Facts] [hReferenceIdeal : Cert.ReferenceIdeal.Facts] [hPre_clip_idle_KernelIdeal : Cert.Pre_clip_idle_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clip_idle_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_clip_idle_KernelIdeal : Cert.Pre_clip_idle_KernelIdeal.Facts) (hPre_clip_idle_ReferenceIdeal : Cert.Pre_clip_idle_ReferenceIdeal.Facts),
    quiescent_Kernel (hKernel := hKernel)
    ∧ quiescent_KernelIdeal (hKernelIdeal := hKernelIdeal)
    ∧ quiescent_KernelIdeal_pre_clip_idle_KernelIdeal (hKernelIdeal := hKernelIdeal) (hPre_clip_idle_KernelIdeal := hPre_clip_idle_KernelIdeal)
    ∧ quiescent_ReferenceIdeal (hReferenceIdeal := hReferenceIdeal)
    ∧ quiescent_ReferenceIdeal_pre_clip_idle_ReferenceIdeal (hReferenceIdeal := hReferenceIdeal) (hPre_clip_idle_ReferenceIdeal := hPre_clip_idle_ReferenceIdeal)
    ∧ preserves_Kernel_KernelIdeal
    ∧ algebraic_KernelIdeal_ReferenceIdeal_pre_clip_idle_KernelIdeal (hKernelIdeal := hKernelIdeal) (hReferenceIdeal := hReferenceIdeal) (hPre_clip_idle_KernelIdeal := hPre_clip_idle_KernelIdeal)
-- ==== Pre_clip_idle_KernelIdeal.lean ====
abbrev S1024x4096 : Shape := ⟨2, ![1024, 4096]⟩
abbrev S4096x2048 : Shape := ⟨2, ![4096, 2048]⟩
abbrev S1 : Shape := ⟨1, ![1]⟩
abbrev S1024x2048 : Shape := ⟨2, ![1024, 2048]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S1024x2048_0_1 : S1x1.BroadcastsInDim S1024x2048 (![0, 1] : Fin 2 → Fin S1024x2048.rank)
  bcast_S_S1024x2048 : S_.BroadcastsInDim S1024x2048 (![] : Fin 0 → Fin S1024x2048.rank)
  reducesTo_S1024x2048_S_d0_1 : S1024x2048.ReducesTo [0, 1] S_
  h_S_ : 0 < S_.numel
  dot_S1024x4096_S4096x2048_S1024x2048_1_0_0_1_n_n_wf : DotDims.WF S1024x4096 S4096x2048 S1024x2048 [1] [0] [0] [1] [] []

variable [Facts]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf
def fn {F : FTy → Type} [FloatOps F] (main_arg0 : FVec F S1024x4096 .f32) (main_arg1 : FVec F S4096x2048 .f32) (main_arg2 : FVec F S1 .f32) (main_arg3 : FVec F S1 .f32) : IVec S_ 1 :=
  let main_v0 : FVec F S1024x2048 .f32 := (fun l r => Host.dotGeneral dot_S1024x4096_S4096x2048_S1024x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S1024x2048 .f32 := broadcastInDim S1024x2048 ![0, 1] bcast_S1x1_S1024x2048_0_1 main_v2
  let main_v4 : FVec F S1024x2048 .f32 := mulf main_v0 main_v3
  let main_cst : FVec F S_ .f32 := constant S_ .f32 0xC2700000#32
  let main_v5 : FVec F S1024x2048 .f32 := broadcastInDim S1024x2048 ![] bcast_S_S1024x2048 main_cst
  let main_v6 : IVec S1024x2048 1 := cmpf .oge main_v4 main_v5
  let main_cst_0 : FVec F S_ .f32 := constant S_ .f32 0x42700000#32
  let main_v7 : FVec F S1024x2048 .f32 := broadcastInDim S1024x2048 ![] bcast_S_S1024x2048 main_cst_0
  let main_v8 : IVec S1024x2048 1 := cmpf .ole main_v4 main_v7
  let main_v9 : IVec S1024x2048 1 := andi main_v6 main_v8
  let main_c : IVec S_ 1 := constantI S_ 1 1#1
  let main_v10 : IVec S_ 1 := (fun x v => Host.reduce IntOp.andi x v reducesTo_S1024x2048_S_d0_1 h_S_) main_v9 main_c
  main_v10
-- ==== Pre_clip_idle_ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S_ 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_cst : FVec F S_ .f32 := constant S_ .f32 0xC2700000#32
  let main_v5 : FVec F S4096x2048 .f32 := broadcastInDim S4096x2048 ![] bcast_S_S4096x2048 main_cst
  let main_v6 : IVec S4096x2048 1 := cmpf .oge main_v4 main_v5
  let main_cst_0 : FVec F S_ .f32 := constant S_ .f32 0x42700000#32
  let main_v7 : FVec F S4096x2048 .f32 := broadcastInDim S4096x2048 ![] bcast_S_S4096x2048 main_cst_0
  let main_v8 : IVec S4096x2048 1 := cmpf .ole main_v4 main_v7
  let main_v9 : IVec S4096x2048 1 := andi main_v6 main_v8
  let main_c : IVec S_ 1 := constantI S_ 1 1#1
  let main_v10 : IVec S_ 1 := (fun x v => Host.reduce IntOp.andi x v reducesTo_S4096x2048_S_d0_1 h_S_) main_v9 main_c
  main_v10
-- ==== Kernel.lean ====
abbrev S1024x4096 : Shape := ⟨2, ![1024, 4096]⟩
abbrev S4096x2048 : Shape := ⟨2, ![4096, 2048]⟩
abbrev S1 : Shape := ⟨1, ![1]⟩
abbrev S4096x512 : Shape := ⟨2, ![4096, 512]⟩
abbrev S2x4096x512 : Shape := ⟨3, ![2, 4096, 512]⟩
abbrev S3x1024x512 : Shape := ⟨3, ![3, 1024, 512]⟩
abbrev S2x1024x512 : Shape := ⟨3, ![2, 1024, 512]⟩
abbrev S4 : Shape := ⟨1, ![4]⟩
abbrev S2 : Shape := ⟨1, ![2]⟩
abbrev S3x4 : Shape := ⟨2, ![3, 4]⟩
abbrev S_ : Shape := ⟨0, ![]⟩
abbrev S256x4096 : Shape := ⟨2, ![256, 4096]⟩
abbrev S1x4096x512 : Shape := ⟨3, ![1, 4096, 512]⟩
abbrev S256x512 : Shape := ⟨2, ![256, 512]⟩
abbrev S1x256x512 : Shape := ⟨3, ![1, 256, 512]⟩
abbrev S1x1 : Shape := ⟨2, ![1, 1]⟩
abbrev S1x1024x512 : Shape := ⟨3, ![1, 1024, 512]⟩
abbrev S1024x512 : Shape := ⟨2, ![1024, 512]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .f32⟩
  | .local _ .vmem, ⟨1, _⟩ => ⟨S1024x4096, .fp8e4m3⟩
  | .local _ .vmem, ⟨2, _⟩ => ⟨S2x4096x512, .f32⟩
  | .local _ .vmem, ⟨3, _⟩ => ⟨S2x4096x512, .fp8e4m3⟩
  | .local _ .vmem, ⟨4, _⟩ => ⟨S3x1024x512, .bf16⟩
  | .local _ .vmem, ⟨5, _⟩ => ⟨S3x1024x512, .bf16⟩
  | .local _ .vmem, ⟨6, _⟩ => ⟨S2x1024x512, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 2 → Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c2_i32
  let c4_i32_4 : BitVec 32 := 4#32
  let c0_i32_5 : BitVec 32 := 0#32
  let v8 : BitVec 1 := Scalar.cmpi .eq c4_i32_4 c0_i32_5
  let c1_i32_6 : BitVec 32 := 1#32
  let v9 : BitVec 32 := Scalar.select v8 c1_i32_6 c4_i32_4
  let v10 : BitVec 32 := Scalar.remsi v7 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let c512_i32 : BitVec 32 := 512#32
  let v18 : BitVec 32 := Scalar.muli v17 c512_i32
  ![0, v18.toNat]
def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v37 : BitVec 32 := Scalar.addi v2 c1_i32_27
  let c4_i32_28 : BitVec 32 := 4#32
  let c0_i32_29 : BitVec 32 := 0#32
  let v38 : BitVec 1 := Scalar.cmpi .eq c4_i32_28 c0_i32_29
  let c1_i32_30 : BitVec 32 := 1#32
  let v39 : BitVec 32 := Scalar.select v38 c1_i32_30 c4_i32_28
  let v40 : BitVec 32 := Scalar.remsi v37 v39
  let c0_i32_32 : BitVec 32 := 0#32
  let v42 : BitVec 1 := Scalar.cmpi .slt v40 c0_i32_32
  let c0_i32_33 : BitVec 32 := 0#32
  let v43 : BitVec 1 := Scalar.cmpi .slt v39 c0_i32_33
  let v44 : BitVec 1 := Scalar.xori v42 v43
  let c0_i32_31 : BitVec 32 := 0#32
  let v41 : BitVec 1 := Scalar.cmpi .ne v40 c0_i32_31
  let v45 : BitVec 1 := Scalar.andi v44 v41
  let v46 : BitVec 32 := Scalar.addi v40 v39
  let v47 : BitVec 32 := Scalar.select v45 v46 v40
  let c1_i32_35 : BitVec 32 := 1#32
  let v48 : BitVec 32 := Scalar.muli v47 c1_i32_35
  let v49 : BitVec 32 := Scalar.addi c0_i32_36 v48
  v49.toNat
def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v50 : BitVec 32 := Scalar.addi v2 c2_i32_37
  let c4_i32_38 : BitVec 32 := 4#32
  let c0_i32_39 : BitVec 32 := 0#32
  let v51 : BitVec 1 := Scalar.cmpi .eq c4_i32_38 c0_i32_39
  let c1_i32_40 : BitVec 32 := 1#32
  let v52 : BitVec 32 := Scalar.select v51 c1_i32_40 c4_i32_38
  let v53 : BitVec 32 := Scalar.remsi v50 v52
  let c0_i32_42 : BitVec 32 := 0#32
  let v55 : BitVec 1 := Scalar.cmpi .slt v53 c0_i32_42
  let c0_i32_43 : BitVec 32 := 0#32
  let v56 : BitVec 1 := Scalar.cmpi .slt v52 c0_i32_43
  let v57 : BitVec 1 := Scalar.xori v55 v56
  let c0_i32_41 : BitVec 32 := 0#32
  let v54 : BitVec 1 := Scalar.cmpi .ne v53 c0_i32_41
  let v58 : BitVec 1 := Scalar.andi v57 v54
  let v59 : BitVec 32 := Scalar.addi v53 v52
  let v60 : BitVec 32 := Scalar.select v58 v59 v53
  let c1_i32_45 : BitVec 32 := 1#32
  let v61 : BitVec 32 := Scalar.muli v60 c1_i32_45
  let v62 : BitVec 32 := Scalar.addi c0_i32_46 v61
  v62.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_47 : BitVec 32 := 3#32
  let v63 : BitVec 32 := Scalar.addi v2 c3_i32_47
  let c4_i32_48 : BitVec 32 := 4#32
  let c0_i32_49 : BitVec 32 := 0#32
  let v64 : BitVec 1 := Scalar.cmpi .eq c4_i32_48 c0_i32_49
  let c1_i32_50 : BitVec 32 := 1#32
  let v65 : BitVec 32 := Scalar.select v64 c1_i32_50 c4_i32_48
  let v66 : BitVec 32 := Scalar.remsi v63 v65
  let c0_i32_52 : BitVec 32 := 0#32
  let v68 : BitVec 1 := Scalar.cmpi .slt v66 c0_i32_52
  let c0_i32_53 : BitVec 32 := 0#32
  let v69 : BitVec 1 := Scalar.cmpi .slt v65 c0_i32_53
  let v70 : BitVec 1 := Scalar.xori v68 v69
  let c0_i32_51 : BitVec 32 := 0#32
  let v67 : BitVec 1 := Scalar.cmpi .ne v66 c0_i32_51
  let v71 : BitVec 1 := Scalar.andi v70 v67
  let v72 : BitVec 32 := Scalar.addi v66 v65
  let v73 : BitVec 32 := Scalar.select v71 v72 v66
  let c1_i32_55 : BitVec 32 := 1#32
  let v74 : BitVec 32 := Scalar.muli v73 c1_i32_55
  let v75 : BitVec 32 := Scalar.addi c0_i32_56 v74
  v75.toNat
def k0_dev4 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v88 : BitVec 32 := Scalar.addi v2 c2_i32_68
  let c4_i32_69 : BitVec 32 := 4#32
  let c0_i32_70 : BitVec 32 := 0#32
  let v89 : BitVec 1 := Scalar.cmpi .eq c4_i32_69 c0_i32_70
  let c1_i32_71 : BitVec 32 := 1#32
  let v90 : BitVec 32 := Scalar.select v89 c1_i32_71 c4_i32_69
  let v91 : BitVec 32 := Scalar.remsi v88 v90
  let c0_i32_73 : BitVec 32 := 0#32
  let v93 : BitVec 1 := Scalar.cmpi .slt v91 c0_i32_73
  let c0_i32_74 : BitVec 32 := 0#32
  let v94 : BitVec 1 := Scalar.cmpi .slt v90 c0_i32_74
  let v95 : BitVec 1 := Scalar.xori v93 v94
  let c0_i32_72 : BitVec 32 := 0#32
  let v92 : BitVec 1 := Scalar.cmpi .ne v91 c0_i32_72
  let v96 : BitVec 1 := Scalar.andi v95 v92
  let v97 : BitVec 32 := Scalar.addi v91 v90
  let v98 : BitVec 32 := Scalar.select v96 v97 v91
  let c1_i32_116 : BitVec 32 := 1#32
  let v146 : BitVec 32 := Scalar.muli v98 c1_i32_116
  let v147 : BitVec 32 := Scalar.addi c0_i32_117 v146
  v147.toNat
def k0_dev5 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v88 : BitVec 32 := Scalar.addi v2 c2_i32_68
  let c4_i32_69 : BitVec 32 := 4#32
  let c0_i32_70 : BitVec 32 := 0#32
  let v89 : BitVec 1 := Scalar.cmpi .eq c4_i32_69 c0_i32_70
  let c1_i32_71 : BitVec 32 := 1#32
  let v90 : BitVec 32 := Scalar.select v89 c1_i32_71 c4_i32_69
  let v91 : BitVec 32 := Scalar.remsi v88 v90
  let c0_i32_73 : BitVec 32 := 0#32
  let v93 : BitVec 1 := Scalar.cmpi .slt v91 c0_i32_73
  let c0_i32_74 : BitVec 32 := 0#32
  let v94 : BitVec 1 := Scalar.cmpi .slt v90 c0_i32_74
  let v95 : BitVec 1 := Scalar.xori v93 v94
  let c0_i32_72 : BitVec 32 := 0#32
  let v92 : BitVec 1 := Scalar.cmpi .ne v91 c0_i32_72
  let v96 : BitVec 1 := Scalar.andi v95 v92
  let v97 : BitVec 32 := Scalar.addi v91 v90
  let v98 : BitVec 32 := Scalar.select v96 v97 v91
  let c1_i32_148 : BitVec 32 := 1#32
  let v183 : BitVec 32 := Scalar.muli v98 c1_i32_148
  let v184 : BitVec 32 := Scalar.addi c0_i32_149 v183
  v184.toNat
def k0_dev6 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v88 : BitVec 32 := Scalar.addi v2 c2_i32_68
  let c4_i32_69 : BitVec 32 := 4#32
  let c0_i32_70 : BitVec 32 := 0#32
  let v89 : BitVec 1 := Scalar.cmpi .eq c4_i32_69 c0_i32_70
  let c1_i32_71 : BitVec 32 := 1#32
  let v90 : BitVec 32 := Scalar.select v89 c1_i32_71 c4_i32_69
  let v91 : BitVec 32 := Scalar.remsi v88 v90
  let c0_i32_73 : BitVec 32 := 0#32
  let v93 : BitVec 1 := Scalar.cmpi .slt v91 c0_i32_73
  let c0_i32_74 : BitVec 32 := 0#32
  let v94 : BitVec 1 := Scalar.cmpi .slt v90 c0_i32_74
  let v95 : BitVec 1 := Scalar.xori v93 v94
  let c0_i32_72 : BitVec 32 := 0#32
  let v92 : BitVec 1 := Scalar.cmpi .ne v91 c0_i32_72
  let v96 : BitVec 1 := Scalar.andi v95 v92
  let v97 : BitVec 32 := Scalar.addi v91 v90
  let v98 : BitVec 32 := Scalar.select v96 v97 v91
  let c1_i32_180 : BitVec 32 := 1#32
  let v220 : BitVec 32 := Scalar.muli v98 c1_i32_180
  let v221 : BitVec 32 := Scalar.addi c0_i32_181 v220
  v221.toNat
def k0_dev7 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v88 : BitVec 32 := Scalar.addi v2 c2_i32_68
  let c4_i32_69 : BitVec 32 := 4#32
  let c0_i32_70 : BitVec 32 := 0#32
  let v89 : BitVec 1 := Scalar.cmpi .eq c4_i32_69 c0_i32_70
  let c1_i32_71 : BitVec 32 := 1#32
  let v90 : BitVec 32 := Scalar.select v89 c1_i32_71 c4_i32_69
  let v91 : BitVec 32 := Scalar.remsi v88 v90
  let c0_i32_73 : BitVec 32 := 0#32
  let v93 : BitVec 1 := Scalar.cmpi .slt v91 c0_i32_73
  let c0_i32_74 : BitVec 32 := 0#32
  let v94 : BitVec 1 := Scalar.cmpi .slt v90 c0_i32_74
  let v95 : BitVec 1 := Scalar.xori v93 v94
  let c0_i32_72 : BitVec 32 := 0#32
  let v92 : BitVec 1 := Scalar.cmpi .ne v91 c0_i32_72
  let v96 : BitVec 1 := Scalar.andi v95 v92
  let v97 : BitVec 32 := Scalar.addi v91 v90
  let v98 : BitVec 32 := Scalar.select v96 v97 v91
  let c1_i32_212 : BitVec 32 := 1#32
  let v257 : BitVec 32 := Scalar.muli v98 c1_i32_212
  let v258 : BitVec 32 := Scalar.addi c0_i32_213 v257
  v258.toNat
def k0_dev8 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_218 : BitVec 32 := 1#32
  let v267 : BitVec 32 := Scalar.addi v2 c1_i32_218
  let c4_i32_219 : BitVec 32 := 4#32
  let c0_i32_220 : BitVec 32 := 0#32
  let v268 : BitVec 1 := Scalar.cmpi .eq c4_i32_219 c0_i32_220
  let c1_i32_221 : BitVec 32 := 1#32
  let v269 : BitVec 32 := Scalar.select v268 c1_i32_221 c4_i32_219
  let v270 : BitVec 32 := Scalar.remsi v267 v269
  let c0_i32_223 : BitVec 32 := 0#32
  let v272 : BitVec 1 := Scalar.cmpi .slt v270 c0_i32_223
  let c0_i32_224 : BitVec 32 := 0#32
  let v273 : BitVec 1 := Scalar.cmpi .slt v269 c0_i32_224
  let v274 : BitVec 1 := Scalar.xori v272 v273
  let c0_i32_222 : BitVec 32 := 0#32
  let v271 : BitVec 1 := Scalar.cmpi .ne v270 c0_i32_222
  let v275 : BitVec 1 := Scalar.andi v274 v271
  let v276 : BitVec 32 := Scalar.addi v270 v269
  let v277 : BitVec 32 := Scalar.select v275 v276 v270
  let c1_i32_268 : BitVec 32 := 1#32
  let v325 : BitVec 32 := Scalar.muli v277 c1_i32_268
  let v326 : BitVec 32 := Scalar.addi c0_i32_269 v325
  v326.toNat
def k0_dev9 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_218 : BitVec 32 := 1#32
  let v267 : BitVec 32 := Scalar.addi v2 c1_i32_218
  let c4_i32_219 : BitVec 32 := 4#32
  let c0_i32_220 : BitVec 32 := 0#32
  let v268 : BitVec 1 := Scalar.cmpi .eq c4_i32_219 c0_i32_220
  let c1_i32_221 : BitVec 32 := 1#32
  let v269 : BitVec 32 := Scalar.select v268 c1_i32_221 c4_i32_219
  let v270 : BitVec 32 := Scalar.remsi v267 v269
  let c0_i32_223 : BitVec 32 := 0#32
  let v272 : BitVec 1 := Scalar.cmpi .slt v270 c0_i32_223
  let c0_i32_224 : BitVec 32 := 0#32
  let v273 : BitVec 1 := Scalar.cmpi .slt v269 c0_i32_224
  let v274 : BitVec 1 := Scalar.xori v272 v273
  let c0_i32_222 : BitVec 32 := 0#32
  let v271 : BitVec 1 := Scalar.cmpi .ne v270 c0_i32_222
  let v275 : BitVec 1 := Scalar.andi v274 v271
  let v276 : BitVec 32 := Scalar.addi v270 v269
  let v277 : BitVec 32 := Scalar.select v275 v276 v270
  let c1_i32_292 : BitVec 32 := 1#32
  let v353 : BitVec 32 := Scalar.muli v277 c1_i32_292
  let v354 : BitVec 32 := Scalar.addi c0_i32_293 v353
  v354.toNat
def k0_dev10 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_218 : BitVec 32 := 1#32
  let v267 : BitVec 32 := Scalar.addi v2 c1_i32_218
  let c4_i32_219 : BitVec 32 := 4#32
  let c0_i32_220 : BitVec 32 := 0#32
  let v268 : BitVec 1 := Scalar.cmpi .eq c4_i32_219 c0_i32_220
  let c1_i32_221 : BitVec 32 := 1#32
  let v269 : BitVec 32 := Scalar.select v268 c1_i32_221 c4_i32_219
  let v270 : BitVec 32 := Scalar.remsi v267 v269
  let c0_i32_223 : BitVec 32 := 0#32
  let v272 : BitVec 1 := Scalar.cmpi .slt v270 c0_i32_223
  let c0_i32_224 : BitVec 32 := 0#32
  let v273 : BitVec 1 := Scalar.cmpi .slt v269 c0_i32_224
  let v274 : BitVec 1 := Scalar.xori v272 v273
  let c0_i32_222 : BitVec 32 := 0#32
  let v271 : BitVec 1 := Scalar.cmpi .ne v270 c0_i32_222
  let v275 : BitVec 1 := Scalar.andi v274 v271
  let v276 : BitVec 32 := Scalar.addi v270 v269
  let v277 : BitVec 32 := Scalar.select v275 v276 v270
  let c1_i32_316 : BitVec 32 := 1#32
  let v381 : BitVec 32 := Scalar.muli v277 c1_i32_316
  let v382 : BitVec 32 := Scalar.addi c0_i32_317 v381
  v382.toNat
def k0_dev11 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_218 : BitVec 32 := 1#32
  let v267 : BitVec 32 := Scalar.addi v2 c1_i32_218
  let c4_i32_219 : BitVec 32 := 4#32
  let c0_i32_220 : BitVec 32 := 0#32
  let v268 : BitVec 1 := Scalar.cmpi .eq c4_i32_219 c0_i32_220
  let c1_i32_221 : BitVec 32 := 1#32
  let v269 : BitVec 32 := Scalar.select v268 c1_i32_221 c4_i32_219
  let v270 : BitVec 32 := Scalar.remsi v267 v269
  let c0_i32_223 : BitVec 32 := 0#32
  let v272 : BitVec 1 := Scalar.cmpi .slt v270 c0_i32_223
  let c0_i32_224 : BitVec 32 := 0#32
  let v273 : BitVec 1 := Scalar.cmpi .slt v269 c0_i32_224
  let v274 : BitVec 1 := Scalar.xori v272 v273
  let c0_i32_222 : BitVec 32 := 0#32
  let v271 : BitVec 1 := Scalar.cmpi .ne v270 c0_i32_222
  let v275 : BitVec 1 := Scalar.andi v274 v271
  let v276 : BitVec 32 := Scalar.addi v270 v269
  let v277 : BitVec 32 := Scalar.select v275 v276 v270
  let c1_i32_340 : BitVec 32 := 1#32
  let v409 : BitVec 32 := Scalar.muli v277 c1_i32_340
  let v410 : BitVec 32 := Scalar.addi c0_i32_341 v409
  v410.toNat
def k0_dev12 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_346 : BitVec 32 := 3#32
  let v419 : BitVec 32 := Scalar.addi v2 c3_i32_346
  let c4_i32_347 : BitVec 32 := 4#32
  let c0_i32_348 : BitVec 32 := 0#32
  let v420 : BitVec 1 := Scalar.cmpi .eq c4_i32_347 c0_i32_348
  let c1_i32_349 : BitVec 32 := 1#32
  let v421 : BitVec 32 := Scalar.select v420 c1_i32_349 c4_i32_347
  let v422 : BitVec 32 := Scalar.remsi v419 v421
  let c0_i32_351 : BitVec 32 := 0#32
  let v424 : BitVec 1 := Scalar.cmpi .slt v422 c0_i32_351
  let c0_i32_352 : BitVec 32 := 0#32
  let v425 : BitVec 1 := Scalar.cmpi .slt v421 c0_i32_352
  let v426 : BitVec 1 := Scalar.xori v424 v425
  let c0_i32_350 : BitVec 32 := 0#32
  let v423 : BitVec 1 := Scalar.cmpi .ne v422 c0_i32_350
  let v427 : BitVec 1 := Scalar.andi v426 v423
  let v428 : BitVec 32 := Scalar.addi v422 v421
  let v429 : BitVec 32 := Scalar.select v427 v428 v422
  let c1_i32_395 : BitVec 32 := 1#32
  let v477 : BitVec 32 := Scalar.muli v429 c1_i32_395
  let v478 : BitVec 32 := Scalar.addi c0_i32_396 v477
  v478.toNat
def k0_dev13 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_346 : BitVec 32 := 3#32
  let v419 : BitVec 32 := Scalar.addi v2 c3_i32_346
  let c4_i32_347 : BitVec 32 := 4#32
  let c0_i32_348 : BitVec 32 := 0#32
  let v420 : BitVec 1 := Scalar.cmpi .eq c4_i32_347 c0_i32_348
  let c1_i32_349 : BitVec 32 := 1#32
  let v421 : BitVec 32 := Scalar.select v420 c1_i32_349 c4_i32_347
  let v422 : BitVec 32 := Scalar.remsi v419 v421
  let c0_i32_351 : BitVec 32 := 0#32
  let v424 : BitVec 1 := Scalar.cmpi .slt v422 c0_i32_351
  let c0_i32_352 : BitVec 32 := 0#32
  let v425 : BitVec 1 := Scalar.cmpi .slt v421 c0_i32_352
  let v426 : BitVec 1 := Scalar.xori v424 v425
  let c0_i32_350 : BitVec 32 := 0#32
  let v423 : BitVec 1 := Scalar.cmpi .ne v422 c0_i32_350
  let v427 : BitVec 1 := Scalar.andi v426 v423
  let v428 : BitVec 32 := Scalar.addi v422 v421
  let v429 : BitVec 32 := Scalar.select v427 v428 v422
  let c1_i32_419 : BitVec 32 := 1#32
  let v505 : BitVec 32 := Scalar.muli v429 c1_i32_419
  let v506 : BitVec 32 := Scalar.addi c0_i32_420 v505
  v506.toNat
def k0_dev14 (d0 : Dev nD) : Nat :=
  let c0_i32_444 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_346 : BitVec 32 := 3#32
  let v419 : BitVec 32 := Scalar.addi v2 c3_i32_346
  let c4_i32_347 : BitVec 32 := 4#32
  let c0_i32_348 : BitVec 32 := 0#32
  let v420 : BitVec 1 := Scalar.cmpi .eq c4_i32_347 c0_i32_348
  let c1_i32_349 : BitVec 32 := 1#32
  let v421 : BitVec 32 := Scalar.select v420 c1_i32_349 c4_i32_347
  let v422 : BitVec 32 := Scalar.remsi v419 v421
  let c0_i32_351 : BitVec 32 := 0#32
  let v424 : BitVec 1 := Scalar.cmpi .slt v422 c0_i32_351
  let c0_i32_352 : BitVec 32 := 0#32
  let v425 : BitVec 1 := Scalar.cmpi .slt v421 c0_i32_352
  let v426 : BitVec 1 := Scalar.xori v424 v425
  let c0_i32_350 : BitVec 32 := 0#32
  let v423 : BitVec 1 := Scalar.cmpi .ne v422 c0_i32_350
  let v427 : BitVec 1 := Scalar.andi v426 v423
  let v428 : BitVec 32 := Scalar.addi v422 v421
  let v429 : BitVec 32 := Scalar.select v427 v428 v422
  let c1_i32_443 : BitVec 32 := 1#32
  let v533 : BitVec 32 := Scalar.muli v429 c1_i32_443
  let v534 : BitVec 32 := Scalar.addi c0_i32_444 v533
  v534.toNat
def k0_dev15 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_346 : BitVec 32 := 3#32
  let v419 : BitVec 32 := Scalar.addi v2 c3_i32_346
  let c4_i32_347 : BitVec 32 := 4#32
  let c0_i32_348 : BitVec 32 := 0#32
  let v420 : BitVec 1 := Scalar.cmpi .eq c4_i32_347 c0_i32_348
  let c1_i32_349 : BitVec 32 := 1#32
  let v421 : BitVec 32 := Scalar.select v420 c1_i32_349 c4_i32_347
  let v422 : BitVec 32 := Scalar.remsi v419 v421
  let c0_i32_351 : BitVec 32 := 0#32
  let v424 : BitVec 1 := Scalar.cmpi .slt v422 c0_i32_351
  let c0_i32_352 : BitVec 32 := 0#32
  let v425 : BitVec 1 := Scalar.cmpi .slt v421 c0_i32_352
  let v426 : BitVec 1 := Scalar.xori v424 v425
  let c0_i32_350 : BitVec 32 := 0#32
  let v423 : BitVec 1 := Scalar.cmpi .ne v422 c0_i32_350
  let v427 : BitVec 1 := Scalar.andi v426 v423
  let v428 : BitVec 32 := Scalar.addi v422 v421
  let v429 : BitVec 32 := Scalar.select v427 v428 v422
  let c1_i32_467 : BitVec 32 := 1#32
  let v561 : BitVec 32 := Scalar.muli v429 c1_i32_467
  let v562 : BitVec 32 := Scalar.addi c0_i32_468 v561
  v562.toNat
def k0_off2 (d0 : Dev nD) : Fin 2 → Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_473 : BitVec 32 := 512#32
  let v571 : BitVec 32 := Scalar.muli v2 c512_i32_473
  ![0, v571.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v583 : BitVec 32 := Scalar.muli v2 c1024_i32
  let c0_i32_543 : BitVec 32 := 0#32
  ![v583.toNat, 0]
def k0_off4 (d0 : Dev nD) (c3_i32_546 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v665 : BitVec 32 := Scalar.addi v2 c3_i32_546
  let c4_i32_547 : BitVec 32 := 4#32
  let c0_i32_548 : BitVec 32 := 0#32
  let v666 : BitVec 1 := Scalar.cmpi .eq c4_i32_547 c0_i32_548
  let c1_i32_549 : BitVec 32 := 1#32
  let v667 : BitVec 32 := Scalar.select v666 c1_i32_549 c4_i32_547
  let v668 : BitVec 32 := Scalar.remsi v665 v667
  let c0_i32_551 : BitVec 32 := 0#32
  let v670 : BitVec 1 := Scalar.cmpi .slt v668 c0_i32_551
  let c0_i32_552 : BitVec 32 := 0#32
  let v671 : BitVec 1 := Scalar.cmpi .slt v667 c0_i32_552
  let v672 : BitVec 1 := Scalar.xori v670 v671
  let c0_i32_550 : BitVec 32 := 0#32
  let v669 : BitVec 1 := Scalar.cmpi .ne v668 c0_i32_550
  let v673 : BitVec 1 := Scalar.andi v672 v669
  let v674 : BitVec 32 := Scalar.addi v668 v667
  let v675 : BitVec 32 := Scalar.select v673 v674 v668
  let c1024_i32_553 : BitVec 32 := 1024#32
  let v676 : BitVec 32 := Scalar.muli v675 c1024_i32_553
  let c0_i32_680 : BitVec 32 := 0#32
  ![v676.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Same.lean ====
/-
# The printed kernel and its ideal print are one program

Their texts agree, so a run of the one is a run of the other. Compared piece by piece.
-/
module

public import proofs.«01_k».proof.Proof.Gen.Kernel
public import proofs.«01_k».proof.Proof.Gen.KernelIdeal
public import Idealize.ShloMosaic.Adequacy

@[expose] public section

set_option maxRecDepth 65536

noncomputable section

namespace Cert.Same

open Idealize.ShloMosaic Idealize.SL.Sem

variable {F : FTy → Type} [FloatOps F]

/-- The two printed bodies are one program. -/
theorem body : Cert.Kernel.cc0_body (F := F) = Cert.KernelIdeal.cc0_body (F := F) := rfl
/-- So are the tables of bodies, -/
theorem defs₀ : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- the tables with the calls' pipelines in them, -/
theorem defs : Cert.Kernel.defs (F := F) = Cert.KernelIdeal.defs (F := F) :=
  congrArg (Pipeline.defs Cert.KernelIdeal.pcfgs) defs₀
/-- and the programs that a device starts. -/
theorem main : Cert.Kernel.main (F := F) = Cert.KernelIdeal.main (F := F) := rfl

end Cert.Same
-- ==== Proof.Common.lean ====
/-
# The kernel's vocabulary: devices, pieces of the buffers, cells, and what every piece holds

The kernel runs on four devices. Device `c` multiplies its 1024 rows of `x` by each of the four column blocks of `w`,
keeps its own column block and sends the other three products, in bf16 and in four chunks of 256 rows, to their
owners. Everything below is stated for a symbolic device `c`, an index `j : Fin 3` of a distance `j + 1`, and a chunk
`ch : Fin 4`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline library's component, the cells' rounds (duty names `Fin 3`), and counters for the local copies. -/
abbrev UU : Type := UR sig nD τ × (URounds (GSem nD τ sig) (Fin 3) × Counters)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) :=
  (Emb.inl : Emb _ (URounds (GSem nD τ sig) (Fin 3) × Counters)).trans embR

instance : (ER (F := F)).LandsIn (upEmb : UEmb _ 𝕄) := by unfold ER; infer_instance

/-! ## Devices -/

set_option backward.proofsInPublic true in
/-- The device at distance `j + 1` after `c`: where `c` sends at index `j`. -/
def up (c : Dev nD) (j : Fin 3) : Dev nD := ⟨(c.val + (j.val + 1)) % 4, Nat.mod_lt _ (by decide)⟩
set_option backward.proofsInPublic true in
/-- The device at distance `j + 1` before `c`: whose product `c` receives at index `j`. -/
def dn (c : Dev nD) (j : Fin 3) : Dev nD := ⟨(c.val + (3 - j.val)) % 4, Nat.mod_lt _ (by decide)⟩

theorem dn_up (c : Dev nD) (j : Fin 3) : dn (up c j) j = c := by revert c j; decide
theorem up_dn (c : Dev nD) (j : Fin 3) : up (dn c j) j = c := by revert c j; decide
theorem up_rev (c : Dev nD) (j : Fin 3) : up (up c j) j.rev = c := by revert c j; decide
theorem up_rev' (c : Dev nD) (j : Fin 3) : up (up c j.rev) j = c := by revert c j; decide

/-! ## The buffers and their pieces -/

abbrev xH : Memref sig .tc .hbm S1024x4096 .f32 := Memref.whole main_arg0
abbrev wH : Memref sig .tc .hbm S4096x2048 .f32 := Memref.whole main_arg1
abbrev sxM : Memref sig .tc .smem S1 .f32 := Memref.whole cc0_stg0_0
abbrev swM : Memref sig .tc .smem S1 .f32 := Memref.whole cc0_stg1_0
abbrev oH : Memref sig .tc .hbm S4096x512 .f32 := Memref.whole main_v1
abbrev xst : Memref sig .tc .vmem S1024x4096 .f32 := Memref.whole cc0_scratch0
abbrev xf : Memref sig .tc .vmem S1024x4096 .fp8e4m3 := Memref.whole cc0_scratch1
abbrev wsl : Memref sig .tc .vmem S2x4096x512 .f32 := Memref.whole cc0_scratch2
abbrev wf : Memref sig .tc .vmem S2x4096x512 .fp8e4m3 := Memref.whole cc0_scratch3
abbrev snd : Memref sig .tc .vmem S3x1024x512 .bf16 := Memref.whole cc0_scratch4
abbrev rcv : Memref sig .tc .vmem S3x1024x512 .bf16 := Memref.whole cc0_scratch5
abbrev ost : Memref sig .tc .vmem S2x1024x512 .f32 := Memref.whole cc0_scratch6

theorem xR_inb (ch : Fin 4) : ∀ a, (![256 * ch.val, 0] : Fin 2 → Nat) a + S256x4096.size a ≤ S1024x4096.size a := by
  revert ch; decide
theorem wR_inb (s : Fin 2) : ∀ a, (![s.val, 0, 0] : Fin 3 → Nat) a + S1x4096x512.size a ≤ S2x4096x512.size a := by
  revert s; decide
theorem bR_inb (j : Fin 3) (ch : Fin 4) : ∀ a, (![j.val, 256 * ch.val, 0] : Fin 3 → Nat) a + S1x256x512.size a ≤ S3x1024x512.size a := by
  revert j ch; decide
theorem sR_inb (s : Fin 2) : ∀ a, (![s.val, 0, 0] : Fin 3 → Nat) a + S1x1024x512.size a ≤ S2x1024x512.size a := by
  revert s; decide
theorem oR_inb (ch : Fin 4) : ∀ a, (![256 * ch.val, 0] : Fin 2 → Nat) a + S256x512.size a ≤ S1024x512.size a := by
  revert ch; decide
theorem cR_inb (k : Fin 4) : ∀ a, (![0, 512 * k.val] : Fin 2 → Nat) a + S4096x512.size a ≤ S4096x2048.size a := by
  revert k; decide
theorem dR_inb (k : Fin 4) : ∀ a, (![1024 * k.val, 0] : Fin 2 → Nat) a + S1024x512.size a ≤ S4096x512.size a := by
  revert k; decide

/-- Rows `256 ch … 256 ch + 255` of the device's block of `x`. -/
abbrev xR (ch : Fin 4) : Rect S1024x4096 := Rect.unit (s := S1024x4096) ![256 * ch.val, 0] S256x4096.size (xR_inb ch)
/-- Slot `s` of the two slabs of `w`. -/
abbrev wR (s : Fin 2) : Rect S2x4096x512 := Rect.unit (s := S2x4096x512) ![s.val, 0, 0] S1x4096x512.size (wR_inb s)
/-- Chunk `ch` of index `j` of the send and of the receive buffer. -/
abbrev bR (j : Fin 3) (ch : Fin 4) : Rect S3x1024x512 := Rect.unit (s := S3x1024x512) ![j.val, 256 * ch.val, 0] S1x256x512.size (bR_inb j ch)
/-- Slot `s` of the two output stages. -/
abbrev sR (s : Fin 2) : Rect S2x1024x512 := Rect.unit (s := S2x1024x512) ![s.val, 0, 0] S1x1024x512.size (sR_inb s)
/-- Chunk `ch` of an output stage. -/
abbrev oR (ch : Fin 4) : Rect S1024x512 := Rect.unit (s := S1024x512) ![256 * ch.val, 0] S256x512.size (oR_inb ch)
/-- Column block `k` of `w`. -/
abbrev cR (k : Fin 4) : Rect S4096x2048 := Rect.unit (s := S4096x2048) ![0, 512 * k.val] S4096x512.size (cR_inb k)
/-- Row block `k` of the result. -/
abbrev dR (k : Fin 4) : Rect S4096x512 := Rect.unit (s := S4096x512) ![1024 * k.val, 0] S1024x512.size (dR_inb k)

abbrev xHP (ch : Fin 4) : Memref sig .tc .hbm S256x4096 .f32 := xH.slice (xR ch) (fun _ => rfl)
abbrev xsP (ch : Fin 4) : Memref sig .tc .vmem S256x4096 .f32 := xst.slice (xR ch) (fun _ => rfl)
abbrev xfP (ch : Fin 4) : Memref sig .tc .vmem S256x4096 .fp8e4m3 := xf.slice (xR ch) (fun _ => rfl)
abbrev wHP (k : Fin 4) : Memref sig .tc .hbm S4096x512 .f32 := wH.slice (cR k) (fun _ => rfl)
abbrev wsP (s : Fin 2) : Memref sig .tc .vmem S1x4096x512 .f32 := wsl.slice (wR s) (fun _ => rfl)
abbrev wfP (s : Fin 2) : Memref sig .tc .vmem S1x4096x512 .fp8e4m3 := wf.slice (wR s) (fun _ => rfl)
abbrev sP (j : Fin 3) (ch : Fin 4) : Memref sig .tc .vmem S1x256x512 .bf16 := snd.slice (bR j ch) (fun _ => rfl)
abbrev rP (j : Fin 3) (ch : Fin 4) : Memref sig .tc .vmem S1x256x512 .bf16 := rcv.slice (bR j ch) (fun _ => rfl)
/-- An output stage as 1024 rows. -/
abbrev osl (s : Fin 2) : Memref sig .tc .vmem S1024x512 .f32 := (ost.slice (sR s) (fun _ => rfl)).squeeze S1024x512 squeezes_S1x1024x512_S1024x512
abbrev osP (s : Fin 2) (ch : Fin 4) : Memref sig .tc .vmem S256x512 .f32 := (osl s).slice (oR ch) (fun _ => rfl)
abbrev oHP (k : Fin 4) : Memref sig .tc .hbm S1024x512 .f32 := oH.slice (dR k) (fun _ => rfl)

/-! ## Semaphores and cells -/

/-- The runtime's barrier semaphore of collective id 0. -/
abbrev barS : Sem sig := (SemArray.scalar (sig.barrier 0 rfl) : Sems sig S_).sem
set_option backward.proofsInPublic true in
abbrev xSem (ch : Fin 4) : DmaSem sig := ⟨2 + ch.val, by have := ch.isLt; show _ < 34; omega⟩
set_option backward.proofsInPublic true in
abbrev wSem (s : Fin 2) : DmaSem sig := ⟨6 + s.val, by have := s.isLt; show _ < 34; omega⟩
set_option backward.proofsInPublic true in
abbrev sSem (j : Fin 3) (ch : Fin 4) : DmaSem sig := ⟨8 + 4 * j.val + ch.val, by have := j.isLt; have := ch.isLt; show _ < 34; omega⟩
set_option backward.proofsInPublic true in
abbrev rSem (j : Fin 3) (ch : Fin 4) : DmaSem sig := ⟨20 + 4 * j.val + ch.val, by have := j.isLt; have := ch.isLt; show _ < 34; omega⟩
set_option backward.proofsInPublic true in
abbrev oSem (s : Fin 2) : DmaSem sig := ⟨32 + s.val, by have := s.isLt; show _ < 34; omega⟩

/-- The cells of one device that take part in the exchange: its barrier (`none`), its send cells (`false, j, ch`)
    and its receive cells (`true, j, ch`). -/
abbrev Key : Type := Option (Bool × Fin 3 × Fin 4)

def csem : Key → SemLoc sig
  | none => .reg barS
  | some (false, j, ch) => .dma (sSem j ch)
  | some (true, j, ch) => .dma (rSem j ch)

abbrev cell (c : Dev nD) (k : Key) : GSem nD τ sig := ((c : Thread nD τ), csem k)
abbrev barCell (c : Dev nD) : GSem nD τ sig := ((c : Thread nD τ), .reg barS)
abbrev sCell (c : Dev nD) (j : Fin 3) (ch : Fin 4) : GSem nD τ sig := ((c : Thread nD τ), .dma (sSem j ch))
abbrev rCell (c : Dev nD) (j : Fin 3) (ch : Fin 4) : GSem nD τ sig := ((c : Thread nD τ), .dma (rSem j ch))

set_option backward.proofsInPublic true in
/-- Which of a device's cells a semaphore is, if any. -/
def dec : SemLoc sig → Option Key
  | .reg s => if s = barS then some none else none
  | .dma s => if s.val < 8 then none else if s.val < 20 then some (some (false, ⟨(s.val - 8) / 4 % 3, Nat.mod_lt _ (by decide)⟩, ⟨s.val % 4, Nat.mod_lt _ (by decide)⟩))
      else if s.val < 32 then some (some (true, ⟨(s.val - 20) / 4 % 3, Nat.mod_lt _ (by decide)⟩, ⟨s.val % 4, Nat.mod_lt _ (by decide)⟩)) else none

theorem dec_csem (k : Key) : dec (csem k) = some k := by revert k; decide

theorem csem_injective : Function.Injective csem := fun a b h => by
  have := congrArg dec h; rw [dec_csem, dec_csem] at this; exact Option.some.inj this

/-- The credit of one chunk's transfer. -/
abbrev N : ℕ := ((rP 0 0).squeeze S256x512 squeezes_S1x256x512_S256x512).view.dmaCredit
theorem N_pos : 0 < N := View.dmaCredit_pos _ (by decide)

/-! ## Contents -/

variable (m : (ℓ : Loc nD τ sig) → Buf (Elt F) ℓ)

/-- The device's blocks of the arguments, as launched. -/
def xArr (c : Dev nD) : S1024x4096.Idx → F .f32 := m ((c : Thread nD τ).loc main_arg0)
def wArr (c : Dev nD) : S4096x2048.Idx → F .f32 := m ((c : Thread nD τ).loc main_arg1)
def sxArr (c : Dev nD) : S1.Idx → F .f32 := m ((c : Thread nD τ).loc main_arg2)
def swArr (c : Dev nD) : S1.Idx → F .f32 := m ((c : Thread nD τ).loc main_arg3)

/-- Chunk `ch` of the rows of `x`, and column block `k` of `w`. -/
def xc (c : Dev nD) (ch : Fin 4) : S256x4096.Idx → F .f32 := fun i => xArr m c ((xR ch).emb i)
def wc (c : Dev nD) (k : Fin 4) : S4096x512.Idx → F .f32 := fun i => wArr m c ((cR k).emb i)

/-- A column block as the slab's slot holds it. -/
def wc1 (c : Dev nD) (k : Fin 4) : S1x4096x512.Idx → F .f32 :=
  fun i => wc m c k ((Shape.reshapeEquiv (squeezes_S1x4096x512_S4096x512).numel_eq).symm i)

/-- The product of the two scales. -/
def scl (c : Dev nD) : F .f32 :=
  k0_pay1 (sxArr m c (Shape.Idx.first (by decide : 0 < S1.numel))) (swArr m c (Shape.Idx.first (by decide : 0 < S1.numel)))

/-- The chunk of `x` and the column block of `w` after the cast to fp8. -/
def xq (c : Dev nD) (ch : Fin 4) : S256x4096.Idx → F .fp8e4m3 := k0_pay2 (xc m c ch)
def wq (c : Dev nD) (k : Fin 4) : S1x4096x512.Idx → F .fp8e4m3 := k0_pay3 (wc1 m c k)

/-- The block of the product, activated and rounded to bf16, that `c` computes of its rows `ch` and column block `k`. -/
def blk (c : Dev nD) (k ch : Fin 4) : S1x256x512.Idx → F .bf16 := k0_pay4 (scl m c) (xq m c ch) (wq m c k)

/-- What `c` sends at index `j`: the block of the columns of the device at distance `j + 1`. -/
abbrev sblk (c : Dev nD) (j : Fin 3) (ch : Fin 4) : S1x256x512.Idx → F .bf16 := blk m c (up c j) ch

/-- The output stage's chunk of `c`'s own rows, and of the rows received at index `j`. -/
def ownc (c : Dev nD) (ch : Fin 4) : S256x512.Idx → F .f32 := k0_pay33 (scl m c) (xq m c ch) (wq m c c)
def recc (c : Dev nD) (j : Fin 3) (ch : Fin 4) : S256x512.Idx → F .f32 := k0_pay40 (sblk m (dn c j) j ch)

end Cert.KProof
-- ==== Proof.Local.lean ====
/-
# Loads, stores and local copies of a piece of a buffer

Each rule is stated for a piece that a device owns at known contents (`owns`): a load gives the contents, a store
replaces them, a local copy is in flight until its wait gives the destination at the source's contents.
-/
module

public import proofs.«01_k».proof.Proof.Common

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a part of the body on device `c`. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A piece owned by device `c` at contents `X`. -/
abbrev own (c : Dev nD) {sp : Space} {sh : Shape} {e : EltTy} (M : Memref sig .tc sp sh e) (q : PosShare TreeShare)
    (X : sh.Idx → Elt F e) : sProp 𝕄 := owns (Ix := Unit) (Name := ℕ) (U := UU) (Lvl := ℕ) (c : Thread nD τ) M q X

section Rules

variable {c : Dev nD} {sp sp' : Space} {cs : CoreSpace} {s s' : Shape} {e : EltTy} {α : Type}

/-- A load of a piece through the buffer that it is a piece of. -/
theorem load_own {Q : α → sProp 𝕄} {M : Memref sig .tc cs s e} {r : Rect s} {hr : ∀ a, r.stride a = 1} {hl : M.view.LoadsAt r.toLoadRect}
    {k : (r.shape.Idx → Elt F e) → Prog (TpuEff nD τ sig (Elt F) Λ₀ .tc) α} {q : PosShare TreeShare} {X : r.shape.Idx → Elt F e} :
    own c (M.slice r hr) q X
      ⊢ iprop((own c (M.slice r hr) q X -∗ wpB c (k X) Q) -∗ wpB c (.op (.load M r.toLoadRect hl) k) Q) := by
  iintro H Hk
  ihave H' := (show own c (M.slice r hr) q X ⊢ iprop(∃ g, ⌜(M.slice r hr).view.read (Elt F) g = X⌝
    ∗ (M.slice r hr).view.loc (c : Thread nD τ) ↦[(M.slice r hr).view.set]{q} g) from .rfl) $$ H
  icases H' with ⟨%f, %hf, H⟩
  iapply (wp_load_rect 𝒱₀ (c : Thread nD τ) none Set.univ (m := M) (r := r) (Finset.Subset.refl _)) $$ H
  iintro H
  rw [show (M.access r).read (Elt F) f = X from hf]
  iapply Hk
  rw [← hf]
  iapply (owns_intro (c : Thread nD τ) (M.slice r hr) q f) $$ H

/-- An unmasked store of a whole piece through the buffer that it is a piece of. -/
theorem store_own {Q : α → sProp 𝕄} {M : Memref sig .tc cs s e} {r : Rect s} {hr : ∀ a, r.stride a = 1} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    own c (M.slice r hr) fullShare X
      ⊢ iprop((own c (M.slice r hr) fullShare w -∗ wpB c (k ⟨⟩) Q) -∗ wpB c (.op (.store M r w Finset.univ hx hm) k) Q) := by
  iintro H Hk
  ihave H' := (show own c (M.slice r hr) fullShare X ⊢ iprop(∃ g, ⌜(M.slice r hr).view.read (Elt F) g = X⌝
    ∗ (M.slice r hr).view.loc (c : Thread nD τ) ↦[(M.slice r hr).view.set]{fullShare} g) from .rfl) $$ H
  icases H' with ⟨%f, %hf, H⟩
  iapply (wp_store 𝒱₀ (c : Thread nD τ) none Set.univ (m := M) (r := r) (Mk := Finset.univ) (S := (M.access r).set) (f := f) (Finset.Subset.refl _)) $$ H
  iintro H
  iapply Hk
  have h := owns_intro (Ix := Unit) (Name := ℕ) (U := UU) (Lvl := ℕ) (c : Thread nD τ) (M.slice r hr) fullShare ((M.access r).write (Elt F) f w Finset.univ)
  rw [show (M.slice r hr).view.read (Elt F) ((M.access r).write (Elt F) f w Finset.univ) = w from View.read_write_univ _ _] at h
  iapply h $$ H

/-- A piece at some contents. -/
abbrev ownA (c : Dev nD) {sp : Space} {sh : Shape} {e : EltTy} (M : Memref sig .tc sp sh e) : sProp 𝕄 :=
  iprop(∃ X : sh.Idx → Elt F e, own c M fullShare X)

/-- A piece with axes of size one dropped holds the same contents, re-indexed. -/
theorem own_squeeze (M : Memref sig .tc sp s e) (h : s.Squeezes s') (q : PosShare TreeShare) (X : s.Idx → Elt F e) :
    own c M q X = own c (M.squeeze s' h) q (fun j => X (Shape.reshapeEquiv h.numel_eq j)) := by
  have hset : (M.squeeze s' h).view.set = M.view.set := View.set_reshape _ _
  have h₁ : own c M q X ⊢ own c (M.squeeze s' h) q (fun j => X (Shape.reshapeEquiv h.numel_eq j)) := by
    iintro H
    ihave H' := (show own c M q X ⊢ iprop(∃ g, ⌜M.view.read (Elt F) g = X⌝
      ∗ M.view.loc (c : Thread nD τ) ↦[M.view.set]{q} g) from .rfl) $$ H
    icases H' with ⟨%f, %hf, H⟩
    subst hf
    have h := owns_intro (Ix := Unit) (Name := ℕ) (U := UU) (Lvl := ℕ) (c : Thread nD τ) (M.squeeze s' h) q f
    rw [hset] at h
    iapply h $$ H
  have h₂ : own c (M.squeeze s' h) q (fun j => X (Shape.reshapeEquiv h.numel_eq j)) ⊢ own c M q X := by
    iintro H
    ihave H' := (show own c (M.squeeze s' h) q (fun j => X (Shape.reshapeEquiv h.numel_eq j)) ⊢ iprop(∃ g, ⌜(M.squeeze s' h).view.read (Elt F) g = (fun j => X (Shape.reshapeEquiv h.numel_eq j))⌝
      ∗ (M.squeeze s' h).view.loc (c : Thread nD τ) ↦[(M.squeeze s' h).view.set]{q} g) from .rfl) $$ H
    icases H' with ⟨%f, %hf, H⟩
    have hX : M.view.read (Elt F) f = X := by
      funext i
      have := congrFun hf ((Shape.reshapeEquiv h.numel_eq).symm i)
      rw [Equiv.apply_symm_apply] at this
      rw [← this]
      show M.view.read (Elt F) f i = M.view.read (Elt F) f (Shape.reshapeEquiv h.numel_eq ((Shape.reshapeEquiv h.numel_eq).symm i))
      rw [Equiv.apply_symm_apply]
    have h := owns_intro (Ix := Unit) (Name := ℕ) (U := UU) (Lvl := ℕ) (c : Thread nD τ) M q f
    rw [hX, ← hset] at h
    iapply h $$ H
  exact BI.equiv_iff.mp ⟨h₁, h₂⟩

/-- A local copy on semaphore `sm` that moves `X` into `dst`. -/
abbrev Fl (c : Dev nD) (sm : DmaSem sig) (n : ℕ) (D : sProp 𝕄) : sProp 𝕄 :=
  Transfers.Flight countersEmb (c : Thread nD τ) (.dma sm) () n D

/-- Starting a local copy: the destination, whatever it held, will hold the source's contents. -/
theorem start_own {Q : α → sProp 𝕄} {src : Memref sig .tc sp s e} {dst : Memref sig .tc sp' s e} {sm : DmaSem sig} (sm' : DmaSem sig) (hsm : sm = sm')
    {hsrc : src.view.WordExact} {hdst : dst.view.WordExact}
    {hsem : DmaTarget.Typed (nD := nD) (τ := τ) (p := .tc) sp (.dma sm) (.here dst)}
    {k : PUnit → Prog (TpuEff nD τ sig (Elt F) Λ₀ .tc) α} {q : PosShare TreeShare} {X Y : s.Idx → Elt F e}
    (hn : 0 < dst.view.dmaCredit) :
    own c src q X
      ⊢ iprop(own c dst fullShare Y -∗ semVal ((c : Thread nD τ), .dma sm') 0
          -∗ (Fl c sm' dst.view.dmaCredit iprop(own c dst fullShare X ∗ own c src q X) -∗ wpB c (k ⟨⟩) Q)
          -∗ wpB c (.op (.enqueueDma src (.here dst) (.dma sm) hsrc hdst hsem) k) Q) := by
  subst hsm
  iintro Hs Hd Hv Hk
  ihave Hs' := (show own c src q X ⊢ iprop(∃ g, ⌜src.view.read (Elt F) g = X⌝
      ∗ src.view.loc (c : Thread nD τ) ↦[src.view.set]{q} g) from .rfl) $$ Hs
  icases Hs' with ⟨%fs, %hfs, Hs⟩
  ihave Hd' := (show own c dst fullShare Y ⊢ iprop(∃ g, ⌜dst.view.read (Elt F) g = Y⌝
      ∗ dst.view.loc (c : Thread nD τ) ↦[dst.view.set]{fullShare} g) from .rfl) $$ Hd
  icases Hd' with ⟨%fd, %hfd, Hd⟩
  subst hfs
  iapply (Transfers.wp_dmaLocal countersEmb 𝒱₀ (c : Thread nD τ) none (src := src) (dst := dst) (via := .same) (sm := .dma sm) (fs := fs) (fd := fd)
    () dst.view.dmaCredit rfl hn (Finset.Subset.refl _)) $$ [Hs Hd Hv]
  · isplitl [Hs]; · iexact Hs
    isplitl [Hd]; · iexact Hd
    iexact Hv
  iintro Hf
  iapply Hk
  iapply (Transfers.Flight_mono countersEmb (c : Thread nD τ) ?_) $$ Hf
  iintro ⟨Hd, Hs⟩
  isplitl [Hd]
  · have h := owns_intro (Ix := Unit) (Name := ℕ) (U := UU) (Lvl := ℕ) (c : Thread nD τ) dst fullShare
      (dst.view.write (Elt F) fd (src.view.read (Elt F) fs) Finset.univ)
    rw [View.read_write_univ] at h
    iapply h $$ Hd
  · iapply (owns_intro (c : Thread nD τ) src q fs) $$ Hs

/-- Waiting for a local copy: what it delivers, and its semaphore at zero again. -/
theorem wait_own {Q : α → sProp 𝕄} {srcw : Memref sig .tc sp' s' e} {sp'' : Space} {dst : Memref sig .tc sp'' s e} {sm : DmaSem sig} (sm' : DmaSem sig) (hsm : sm = sm')
    {hsrc : srcw.view.WordExact} {hdst : dst.view.WordExact} {k : PUnit → Prog (TpuEff nD τ sig (Elt F) Λ₀ .tc) α}
    (n : ℕ) (hn : dst.view.dmaCredit = n) {D : sProp 𝕄} {O : CellTallies nD τ sig Unit} :
    Fl c sm' n D
      ⊢ iprop((∃ W, owes (c : Thread nD τ) O W) -∗ MayWait (c : Thread nD τ) (.dma sm') () O
          -∗ ((D ∗ semVal ((c : Thread nD τ), .dma sm') 0 ∗ ∃ W, owes (c : Thread nD τ) O W) -∗ wpB c (k ⟨⟩) Q)
          -∗ wpB c (.op (.waitDma2 sm srcw dst hsrc hdst) k) Q) := by
  subst hsm
  iintro Hf ⟨%W, HO⟩ Hm Hk
  iapply (Transfers.wp_waitLocalO countersEmb 𝒱₀ (c : Thread nD τ) none (srcw := srcw) (dstw := dst) () hn) $$ [Hf HO Hm]
  · isplitl [Hf]; · iexact Hf
    isplitl [HO]; · iexact HO
    iexact Hm
  iintro ⟨HD, Hv, HO⟩
  iapply Hk
  isplitl [HD]; · iexact HD
  isplitl [Hv]; · iexact Hv
  iexists _
  iexact HO

end Rules

end Cert.KProof
-- ==== Proof.Sched.lean ====
/-
# The exchange: who signals whom, and what every landing hands over

Every device owns a barrier cell, twelve send cells and twelve receive cells, one round each.

* The barrier cell of `c` has three duties of one unit. Duty `j` is paid by the device `up c j`, which hands over its
  own receive buffer's chunks of index `j`: those that `c` will write.
* The send cell `(j, ch)` of `c` has one duty, paid by its own transfer when the chunk has been read; it hands the chunk
  of the send buffer back.
* The receive cell `(j, ch)` of `c` has one duty, paid by the transfer of `dn c j`; it hands over the chunk of the
  receive buffer at the contents sent: `dn c j`'s block of `c`'s columns.

Levels: a device waits on its barrier (1) while it owes receive credits (2), and on local copies (0) at any time.
-/
module

public import proofs.«01_k».proof.Proof.Local

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The four chunks of a family. -/
abbrev four (Φ : Fin 4 → sProp 𝕄) : sProp 𝕄 := iprop(Φ 0 ∗ Φ 1 ∗ Φ 2 ∗ Φ 3)
abbrev three (Φ : Fin 3 → sProp 𝕄) : sProp 𝕄 := iprop(Φ 0 ∗ Φ 1 ∗ Φ 2)

theorem bigSep_four (Φ : Fin 4 → sProp 𝕄) : bigSep Finset.univ Φ = four Φ := bigSep_univ_eq_bigSepL [0, 1, 2, 3] (by decide) (by decide) Φ
theorem bigSep_three (Φ : Fin 3 → sProp 𝕄) : bigSep Finset.univ Φ = three Φ := bigSep_univ_eq_bigSepL [0, 1, 2] (by decide) (by decide) Φ

/-! ## The schedule -/

/-- What a duty of a device's cell hands over. -/
def pay (c : Dev nD) : Key → Fin 3 → sProp 𝕄
  | none, d => four fun ch => ownA (up c d) (rP d ch)
  | some (false, j, ch), _ => own c (sP j ch) fullShare (sblk m c j ch)
  | some (true, j, ch), _ => own c (rP j ch) fullShare (sblk m (dn c j) j ch)

def amt : Key → ℕ
  | none => 1
  | some _ => N

def dut : Key → Finset (Fin 3)
  | none => Finset.univ
  | some _ => {0}

theorem amt_pos (k : Key) : 0 < amt k := by
  rcases k with _ | k
  · exact Nat.one_pos
  · exact N_pos

def Rd : Rounds.Schedule (GSem nD τ sig) (Fin 3) 𝕄 where
  duties g r := if r = 0 ∧ g.1.2 = .tc then (match dec g.2 with | none => ∅ | some k => dut k) else ∅
  unitless _ := False
  amount g _ _ := match dec g.2 with | none => 1 | some k => amt k
  payload g _ d := match dec g.2 with | none => iprop(emp) | some k => pay m g.1.1 k d
  amount_pos g _ _ _ := by
    cases h : dec g.2 with
    | none => exact Nat.one_pos
    | some k => exact amt_pos k

instance pay_storable (c : Dev nD) (k : Key) (d : Fin 3) : BI.Storable (upEmb : UEmb _ 𝕄) (pay m c k d) := by
  rcases k with _ | ⟨_ | _, j, ch⟩ <;> unfold pay <;> infer_instance

instance Rd_storable (g : GSem nD τ sig) (r : ℕ) (d : Fin 3) : BI.Storable (upEmb : UEmb _ 𝕄) ((Rd (F := F) m).payload g r d) := by
  show BI.Storable upEmb (match dec g.2 with | none => iprop(emp) | some k => pay m g.1.1 k d)
  split <;> infer_instance

section Tables
variable (c : Dev nD) (k : Key)

theorem duties_cell : (Rd (F := F) m).duties (cell c k) 0 = dut k := by
  dsimp only [Rd]; rw [if_pos ⟨rfl, rfl⟩, dec_csem]
theorem duties_later (g : GSem nD τ sig) : ∀ r, 1 ≤ r → (Rd (F := F) m).duties g r = ∅ :=
  fun r hr => by dsimp only [Rd]; rw [if_neg fun h => by omega]
theorem amount_cell (d : Fin 3) : (Rd (F := F) m).amount (cell c k) 0 d = amt k := by
  dsimp only [Rd]; rw [dec_csem]
theorem payload_cell (d : Fin 3) : (Rd (F := F) m).payload (cell c k) 0 d = pay m c k d := by
  dsimp only [Rd]; rw [dec_csem]
theorem expect_bar : (Rd (F := F) m).expect (cell c none) 0 = 3 := by
  unfold Schedule.expect Schedule.amountOf
  rw [duties_cell, Finset.sum_congr rfl fun d _ => amount_cell m c none d]
  rfl
theorem expect_chunk (x : Bool × Fin 3 × Fin 4) : (Rd (F := F) m).expect (cell c (some x)) 0 = N := by
  unfold Schedule.expect Schedule.amountOf
  rw [duties_cell, Finset.sum_congr rfl fun d _ => amount_cell m c (some x) d]
  show ∑ d ∈ {0}, N = N
  rw [Finset.sum_singleton]
theorem rest_bar : bigSep ((Rd (F := F) m).duties (cell c none) 0 \ ∅) (fun d => (Rd (F := F) m).payload (cell c none) 0 d)
    = three fun d => pay m c none d := by
  rw [Finset.sdiff_empty, duties_cell, bigSep_congr (fun d _ => payload_cell m c none d)]
  exact bigSep_three _
theorem rest_chunk (x : Bool × Fin 3 × Fin 4) :
    bigSep ((Rd (F := F) m).duties (cell c (some x)) 0 \ ∅) (fun d => (Rd (F := F) m).payload (cell c (some x)) 0 d) = pay m c (some x) 0 := by
  rw [Finset.sdiff_empty, duties_cell, bigSep_congr (fun d _ => payload_cell m c (some x) d)]
  show bigSep {0} _ = _
  rw [bigSep_singleton]

end Tables

/-! ## What a device still owes -/

/-- A debt: a unit to the barrier of `up c k`, or the credit of a chunk to the receive cell of `up c j`. -/
abbrev Debt : Type := Fin 3 ⊕ (Fin 3 × Fin 4)

def debtCell (c : Dev nD) : Debt → GSem nD τ sig
  | .inl k => cell (up c k) none
  | .inr (j, ch) => cell (up c j) (some (true, j, ch))

def debtAmt : Debt → ℕ
  | .inl _ => 1
  | .inr _ => N

/-- The sum of a list of debts, the head paid first. -/
def owedOf (c : Dev nD) : List Debt → CellTallies nD τ sig Unit
  | [] => 0
  | x :: l => owedOf c l + tallyAt (debtCell c x) () (debtAmt x)

/-- All debts, in the order in which the body pays them. -/
def sends (j : Fin 3) : List Debt := [.inr (j, 0), .inr (j, 1), .inr (j, 2), .inr (j, 3)]
def debts : List Debt := [.inl 0, .inl 1, .inl 2] ++ (sends 1 ++ (sends 0 ++ sends 2))

def O₀ (c : Dev nD) : CellTallies nD τ sig Unit := owedOf c debts

theorem owedOf_pos {c : Dev nD} {l : List Debt} {g : GSem nD τ sig} {u : Unit} (h : 0 < owedOf c l g u) : ∃ x ∈ l, g = debtCell c x := by
  induction l with
  | nil => exact absurd h (Nat.lt_irrefl 0)
  | cons x l ih =>
    unfold owedOf at h
    rw [Pi.add_apply, Finsupp.add_apply, tallyAt_apply] at h
    by_cases hg : g = debtCell c x
    · exact ⟨x, List.mem_cons_self, hg⟩
    · rw [if_neg (fun h' => hg h'.1), Nat.add_zero] at h
      obtain ⟨y, hy, hgy⟩ := ih h
      exact ⟨y, List.mem_cons_of_mem _ hy, hgy⟩

def L (g : GSem nD τ sig) : Finset Unit := if g.1.2 = .tc then {()} else ∅
/-- Barrier cells at 1, receive cells at 2, everything else at 0. -/
def lv (g : GSem nD τ sig) (_ : Unit) : ℕ := match dec g.2 with | some none => 1 | some (some (true, _, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) (u : Unit) : lv (cell c k) u = match k with | none => 1 | some (true, _, _) => 2 | _ => 0 := by
  unfold lv; rw [dec_csem]; rcases k with _ | ⟨_ | _, _, _⟩ <;> rfl

theorem mem_L_debt (c : Dev nD) (x : Debt) : () ∈ L (debtCell c x) := by
  rcases x with k | ⟨j, ch⟩ <;> exact (L_tc _ _) ▸ Finset.mem_singleton_self _

theorem lv_debt_pos (c : Dev nD) (x : Debt) (u : Unit) : 0 < lv (debtCell c x) u := by
  rcases x with k | ⟨j, ch⟩
  · rw [show debtCell c (.inl k) = cell (up c k) none from rfl, lv_cell]; decide
  · rw [show debtCell c (.inr (j, ch)) = cell (up c j) (some (true, j, ch)) from rfl, lv_cell]; exact Nat.lt_of_lt_of_le (by decide) (Nat.le_refl 2)

/-- A semaphore that is none of the exchange's may be waited on whatever is owed. -/
theorem mayWait_local (c : Dev nD) (q : SemLoc sig) (hq : dec q = none) (l : List Debt) :
    (levAts L lv : sProp 𝕄) ⊢ MayWait (c : Thread nD τ) q () (owedOf c l) := by
  refine MayOwe.of_cut (L := L) (lev := lv) 0 (fun p hp => by rw [Finset.mem_singleton.mp hp, L_tc]; exact Finset.mem_singleton_self _)
      (fun g u hg => ?_) (fun p hp => ?_) (fun g u hg => ?_)
  · obtain ⟨x, _, rfl⟩ := owedOf_pos hg; exact mem_L_debt c x
  · rw [Finset.mem_singleton.mp hp]; unfold lv; simp only [hq]; exact Nat.le_refl 0
  · obtain ⟨x, _, rfl⟩ := owedOf_pos hg; exact lv_debt_pos c x u

/-- The barrier may be waited on while only chunks are owed. -/
theorem mayWait_bar (c : Dev nD) (l : List Debt) (hl : ∀ x ∈ l, ∃ y, x = .inr y) :
    (levAts L lv : sProp 𝕄) ⊢ MayWait (c : Thread nD τ) (csem none) () (owedOf c l) := by
  refine MayOwe.of_cut (L := L) (lev := lv) 1 (fun p hp => by rw [Finset.mem_singleton.mp hp, L_tc]; exact Finset.mem_singleton_self _)
      (fun g u hg => ?_) (fun p hp => ?_) (fun g u hg => ?_)
  · obtain ⟨x, _, rfl⟩ := owedOf_pos hg; exact mem_L_debt c x
  · rw [Finset.mem_singleton.mp hp]; exact (lv_cell c none ()).le
  · obtain ⟨x, hx, rfl⟩ := owedOf_pos hg
    obtain ⟨⟨j, ch⟩, rfl⟩ := hl x hx
    rw [show debtCell c (.inr (j, ch)) = cell (up c j) (some (true, j, ch)) from rfl, lv_cell]; exact Nat.lt_of_lt_of_le (by decide) (Nat.le_refl 2)

/-- What device `c` owes is a list of debts, whatever it has waited on. -/
abbrev Ow (c : Dev nD) (l : List Debt) : sProp 𝕄 := iprop(∃ W, owes (c : Thread nD τ) (owedOf c l) W)

/-! ## The persistent part: the cells' invariants, that each has reached its round, the levels -/

variable (K : Dev nD × Key → ℕ)

def records : sProp 𝕄 :=
  iprop((bigSep Finset.univ fun ck : Dev nD × Key => cellInv ER (Rd m) (K ck) (cell ck.1 ck.2))
    ∗ bigSep Finset.univ fun ck : Dev nD × Key => reached ER (cell ck.1 ck.2) 0)

instance records_persistent : BI.Persistent (records m K) := by unfold records; infer_instance

/-- What every step of the body may use any number of times. -/
def env : sProp 𝕄 := iprop(records m K ∗ levAts L lv)

instance env_persistent : BI.Persistent (env m K) := by unfold env; infer_instance

theorem env_lev : env m K ⊢ (levAts L lv : sProp 𝕄) := by unfold env; iintro ⟨-, H⟩; iexact H

theorem inv_at (c : Dev nD) (k : Key) :
    (bigSep Finset.univ fun ck : Dev nD × Key => (cellInv ER (Rd m) (K ck) (cell ck.1 ck.2) : sProp 𝕄)) ⊢ cellInv ER (Rd m) (K (c, k)) (cell c k) :=
  bigSep_elim (Finset.mem_univ (c, k))
theorem reached_at (c : Dev nD) (k : Key) :
    (bigSep Finset.univ fun ck : Dev nD × Key => (reached ER (cell ck.1 ck.2) 0 : sProp 𝕄)) ⊢ reached ER (cell c k) 0 :=
  bigSep_elim (Finset.mem_univ (c, k))

theorem env_inv (c : Dev nD) (k : Key) : env m K ⊢ cellInv ER (Rd m) (K (c, k)) (cell c k) := by
  unfold env records
  iintro ⟨⟨H, -⟩, -⟩
  iapply (inv_at m K c k) $$ H

theorem env_reached (c : Dev nD) (k : Key) : env m K ⊢ reached ER (cell c k) 0 := by
  unfold env records
  iintro ⟨⟨-, H⟩, -⟩
  iapply (reached_at c k) $$ H

theorem pay_bar (c : Dev nD) (d : Fin 3) : pay m c none d = four fun ch => ownA (up c d) (rP d ch) := rfl
theorem pay_send (c : Dev nD) (j : Fin 3) (ch : Fin 4) (d : Fin 3) : pay m c (some (false, j, ch)) d = own c (sP j ch) fullShare (sblk m c j ch) := rfl
theorem pay_recv (c : Dev nD) (j : Fin 3) (ch : Fin 4) (d : Fin 3) :
    pay m c (some (true, j, ch)) d = own c (rP j ch) fullShare (sblk m (dn c j) j ch) := rfl

/-! ## The steps of the exchange -/

section Steps

variable {m K} {c : Dev nD} {α : Type}

/-- The `k`-th signal: device `c` hands its receive chunks of index `rev k` to the device at distance `k + 1`. -/
theorem signal_step {Q : α → sProp 𝕄} {cont : PUnit → Prog (TpuEff nD τ sig (Elt F) Λ₀ .tc) α} (k k' : Fin 3) (hk : k' = k.rev) {n : Dev nD} (hn : n = up c k) {l : List Debt}
    {sm : Sem sig} (hsm : sm = barS) {a : ℕ} (ha : a = 1) :
    env m K ⊢ iprop((four fun ch => ownA c (rP k' ch)) -∗ dutyTok ER (cell (up c k) none) 0 k' -∗ Ow c (.inl k :: l)
      -∗ (Ow c l -∗ wpB c (cont ⟨⟩) Q)
      -∗ wpB c (.op (.semSignal (n : Thread nD τ) sm a) cont) Q) := by
  subst hk hn hsm ha
  iintro #HE Hr Ht ⟨%W, HO⟩ Hk
  iapply (Rounds.wp_signal 𝒱₀ ER (Rd m) (c : Thread nD τ) none (dst := (up c k : Thread nD τ)) (κ := K (up c k, none))
      (d := k.rev) (by rw [show ((up c k : Thread nD τ), SemLoc.reg barS) = cell (up c k) none from rfl, duties_cell]; exact Finset.mem_univ _)
      ((amount_cell m (up c k) none k.rev).trans rfl) () (owedOf c l) rfl)
    $$ [HO Ht Hr]
  · isplitr; · iapply (env_inv m K (up c k) none); iexact HE
    isplitl [HO]; · iexact HO
    isplitl [Ht]; · iexact Ht
    isplitl [Hr]
    · rw [show ((up c k : Thread nD τ), SemLoc.reg barS) = cell (up c k) none from rfl, payload_cell, pay_bar, up_rev]; iexact Hr
    · iapply (env_reached m K (up c k) none); iexact HE
  iintro HO
  iapply Hk
  iexists W; iexact HO

/-- The wait on the barrier: the chunks of the other devices' receive buffers that `c` writes. -/
theorem bar_wait {Q : α → sProp 𝕄} {cont : PUnit → Prog (TpuEff nD τ sig (Elt F) Λ₀ .tc) α} {l : List Debt} (hl : ∀ x ∈ l, ∃ y, x = .inr y)
    {sm : Sem sig} (hsm : sm = barS) {a : ℕ} (ha : a = 3) :
    env m K ⊢ iprop(cred (tallyAt (cell c none) () 3) -∗ atPos ER (cell c none) 0 ∅ 0 -∗ Ow c l
      -∗ (((three fun j => four fun ch => ownA (up c j) (rP j ch)) ∗ semVal (cell c none) 0 ∗ Ow c l) -∗ wpB c (cont ⟨⟩) Q)
      -∗ wpB c (.op (.semWait sm a) cont) Q) := by
  subst hsm ha
  iintro #HE Hc Hat ⟨%W, HO⟩ Hk
  iapply (Rounds.wp_wait_rest_token 𝒱₀ ER (Rd m) (c : Thread nD τ) none (κ := K (c, none)) (sm := csem none)
      (wpE_semWait_eq 𝒱₀ (c : Thread nD τ) none Set.univ) (Set.mem_univ _) () (O := owedOf c l) (W := W) (R := 0) (m := 0) (T := ∅)
      (by rw [expect_bar])) $$ [Hc HO Hat]
  · isplitr; · iapply (env_inv m K c none); iexact HE
    isplitl [Hc]; · iexact Hc
    isplitl [HO]; · iexact HO
    isplitr; · iapply (mayWait_bar c l hl); iapply (env_lev m K); iexact HE
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (cell c none))) $$ [Hat] with Hz
  · isplitr; · iapply (env_inv m K c none); iexact HE
    iexact Hat
  iapply Hk
  isplitl [Hp]; · iexact Hp
  isplitl [Hz]; · iexact Hz
  iexists _; iexact HO

/-- A wait on a send or a receive cell, nothing being owed: what its transfer hands over, and the cell closed. -/
theorem chunk_wait {Q : α → sProp 𝕄} {cont : PUnit → Prog (TpuEff nD τ sig (Elt F) Λ₀ .tc) α} (b : Bool) (j : Fin 3) (ch : Fin 4)
    {sp sp' : Space} {s s' : Shape} {e e' : EltTy} {srcw : Memref sig .tc sp' s' e'} {dst : Memref sig .tc sp s e} {sm : DmaSem sig}
    (hsm : SemLoc.dma sm = csem (some (b, j, ch))) {hsrc : srcw.view.WordExact} {hdst : dst.view.WordExact} (hn : dst.view.dmaCredit = N) :
    env m K ⊢ iprop(cred (tallyAt (cell c (some (b, j, ch))) () N) -∗ atPos ER (cell c (some (b, j, ch))) 0 ∅ 0 -∗ Ow c []
      -∗ ((pay m c (some (b, j, ch)) 0 ∗ semVal (cell c (some (b, j, ch))) 0 ∗ Ow c []) -∗ wpB c (cont ⟨⟩) Q)
      -∗ wpB c (.op (.waitDma2 sm srcw dst hsrc hdst) cont) Q) := by
  iintro #HE Hc Hat ⟨%W, HO⟩ Hk
  rw [show cell c (some (b, j, ch)) = ((c : Thread nD τ), SemLoc.dma sm) from by rw [hsm]]
  iapply (Rounds.wp_wait_rest_token 𝒱₀ ER (Rd m) (c : Thread nD τ) none (κ := K (c, some (b, j, ch)))
      (wpE_waitDma2_eq 𝒱₀ (c : Thread nD τ) none Set.univ) (Set.mem_univ _) () (O := owedOf c []) (W := W) (R := 0) (m := 0) (T := ∅)
      (by rw [Nat.zero_add, hsm]; exact hn.trans (expect_chunk m c (b, j, ch)).symm)) $$ [Hc HO Hat]
  · isplitr; · rw [hsm]; iapply (env_inv m K c (some (b, j, ch))); iexact HE
    isplitl [Hc]; · rw [show (View.dmaCredit dst.view) = N from hn]; iexact Hc
    isplitl [HO]; · iexact HO
    isplitr; · rw [show owedOf c [] = 0 from rfl, MayWait_zero]; iempintro
    iexact Hat
  iintro ⟨HO, Hat, -, Hpay⟩
  rw [hsm]
  ihave Hp := (Entails.of_eq (rest_chunk m c (b, j, ch))) $$ Hpay
  imod (Rounds.cell_close ER (Rd m) (Set.mem_univ (K (c, some (b, j, ch)))) (fun h => h) (R := 0 + 1) (duties_later m (cell c (some (b, j, ch))))) $$ [Hat] with Hz
  · isplitr; · iapply (env_inv m K c (some (b, j, ch))); iexact HE
    iexact Hat
  iapply Hk
  isplitl [Hp]; · iexact Hp
  isplitl [Hz]; · iexact Hz
  iexists _; iexact HO

abbrev sQ (j : Fin 3) (ch : Fin 4) : Memref sig .tc .vmem S256x512 .bf16 := (sP j ch).squeeze S256x512 squeezes_S1x256x512_S256x512
abbrev rQ (j : Fin 3) (ch : Fin 4) : Memref sig .tc .vmem S256x512 .bf16 := (rP j ch).squeeze S256x512 squeezes_S1x256x512_S256x512

/-- What the transfer of chunk `ch` of index `j` needs beside the chunk itself: the two duties' tokens and the target. -/
def tok (c : Dev nD) (j : Fin 3) (ch : Fin 4) : sProp 𝕄 :=
  iprop(dutyTok ER (cell c (some (false, j, ch))) 0 0 ∗ dutyTok ER (cell (up c j) (some (true, j, ch))) 0 0)

theorem amount_rQ (j : Fin 3) (ch : Fin 4) (s : DmaSem sig) : (rQ j ch).view.amount (.dma s) = N := rfl

/-- The transfer of chunk `ch` of index `j`, addressed to `n = up c j`. -/
theorem send_step {Q : α → sProp 𝕄} {cont : PUnit → Prog (TpuEff nD τ sig (Elt F) Λ₀ .tc) α} (j : Fin 3) (ch : Fin 4) {n : Dev nD} (hn : n = up c j) {l : List Debt}
    {sS sR : DmaSem sig} (hS : sS = sSem j ch) (hR : sR = rSem j ch)
    {src dst : Memref sig .tc .vmem S256x512 .bf16} (hs : src = sQ j ch) (hd : dst = rQ j ch)
    {hsc : (dst : Memref sig (Dev.tc n : Thread nD τ).2.kind .vmem S256x512 .bf16).view.ref.isScScratch = false}
    {hsrc : src.view.WordExact} {hdst : dst.view.WordExact}
    {hsem : DmaTarget.Typed (p := (c : Thread nD τ).2) .vmem (.dma sR) (.remote (Dev.tc n : Thread nD τ) dst (.dma sS) hsc)} :
    env m K ⊢ iprop(own c (sP j ch) fullShare (sblk m c j ch) -∗ ownA (up c j) (rP j ch) -∗ tok c j ch -∗ Ow c (.inr (j, ch) :: l)
      -∗ ((cred (tallyAt (cell c (some (false, j, ch))) () N) ∗ Ow c l) -∗ wpB c (cont ⟨⟩) Q)
      -∗ wpB c (.op (.enqueueDma src (.remote (Dev.tc n : Thread nD τ) dst (.dma sS) hsc) (.dma sR) hsrc hdst hsem) cont) Q) := by
  subst hn hS hR hs hd
  unfold tok
  iintro #HE Hs ⟨%Y, Hd⟩ ⟨HtS, HtR⟩ ⟨%W, HO⟩ Hk
  ihave Hs' := (show own c (sP j ch) fullShare (sblk m c j ch) ⊢ iprop(∃ g, ⌜(sP j ch).view.read (Elt F) g = sblk m c j ch⌝
      ∗ (sP j ch).view.loc (c : Thread nD τ) ↦[(sP j ch).view.set]{fullShare} g) from .rfl) $$ Hs
  icases Hs' with ⟨%fs, %hfs, Hs⟩
  ihave Hd' := (show own (up c j) (rP j ch) fullShare Y ⊢ iprop(∃ g, ⌜(rP j ch).view.read (Elt F) g = Y⌝
      ∗ (rP j ch).view.loc (up c j : Thread nD τ) ↦[(rP j ch).view.set]{fullShare} g) from .rfl) $$ Hd
  icases Hd' with ⟨%fd, -, Hd⟩
  have hsS : (sQ j ch).view.set = (sP j ch).view.set := View.set_reshape _ _
  have hsR : (rQ j ch).view.set = (rP j ch).view.set := View.set_reshape _ _
  have hread : ∀ i, (rP j ch).view.read (Elt F) ((rQ j ch).view.write (Elt F) fd ((sQ j ch).view.read (Elt F) fs) Finset.univ) i = sblk m c j ch i := by
    intro i
    have h1 := congrFun (View.read_write_univ (v := (rQ j ch).view) fd ((sQ j ch).view.read (Elt F) fs))
      ((Shape.reshapeEquiv (squeezes_S1x256x512_S256x512).numel_eq).symm i)
    have h2 : (sQ j ch).view.read (Elt F) fs ((Shape.reshapeEquiv (squeezes_S1x256x512_S256x512).numel_eq).symm i) = sblk m c j ch i := by
      rw [← hfs]
      show (sP j ch).view.read (Elt F) fs (Shape.reshapeEquiv (squeezes_S1x256x512_S256x512).numel_eq ((Shape.reshapeEquiv (squeezes_S1x256x512_S256x512).numel_eq).symm i)) = _
      rw [Equiv.apply_symm_apply]
    rw [← h2, ← h1]
    show _ = (rP j ch).view.read (Elt F) _ (Shape.reshapeEquiv (squeezes_S1x256x512_S256x512).numel_eq ((Shape.reshapeEquiv (squeezes_S1x256x512_S256x512).numel_eq).symm i))
    rw [Equiv.apply_symm_apply]
  iapply (Rounds.wp_send_pointsTo 𝒱₀ ER (Rd m) (c : Thread nD τ) none (κ₁ := K (c, some (false, j, ch))) (κ₂ := K (up c j, some (true, j, ch)))
    (r₁ := 0) (r₂ := 0) (d₁ := 0) (d₂ := 0) (fd := fd) (fs := fs) (src := sQ j ch) (dst := rQ j ch) (c' := (up c j : Thread nD τ)) (sS := .dma (sSem j ch)) (sem := .dma (rSem j ch))
    (by rw [show ((c : Thread nD τ), SemLoc.dma (sSem j ch)) = cell c (some (false, j, ch)) from rfl, duties_cell]; exact Finset.mem_singleton_self _)
    (by rw [show ((up c j : Thread nD τ), SemLoc.dma (rSem j ch)) = cell (up c j) (some (true, j, ch)) from rfl, duties_cell]; exact Finset.mem_singleton_self _)
    () () N (amount_rQ j ch (rSem j ch)) (amount_cell m c (some (false, j, ch)) 0) (amount_cell m (up c j) (some (true, j, ch)) 0) (owedOf c l) rfl (W := W)
    ?_ ?_) $$ [Hs Hd HO HtS HtR]
  · rw [show ((c : Thread nD τ), SemLoc.dma (sSem j ch)) = cell c (some (false, j, ch)) from rfl, payload_cell, pay_send, hsS, ← hfs]
    exact owns_intro (c : Thread nD τ) (sP j ch) fullShare fs
  · rw [show ((up c j : Thread nD τ), SemLoc.dma (rSem j ch)) = cell (up c j) (some (true, j, ch)) from rfl, payload_cell, pay_recv, dn_up, hsR, ← funext hread]
    exact owns_intro (up c j : Thread nD τ) (rP j ch) fullShare _
  · isplitr; · iapply (env_inv m K c (some (false, j, ch))); iexact HE
    isplitr; · iapply (env_inv m K (up c j) (some (true, j, ch))); iexact HE
    isplitl [Hs]; · rw [hsS]; iexact Hs
    isplitl [Hd]; · rw [hsR]; iexact Hd
    isplitl [HO]; · iexact HO
    isplitl [HtS]; · iexact HtS
    isplitr; · iapply (env_reached m K c (some (false, j, ch))); iexact HE
    isplitl [HtR]; · iexact HtR
    iapply (env_reached m K (up c j) (some (true, j, ch))); iexact HE
  iintro ⟨Hc, HO⟩
  iapply Hk
  isplitl [Hc]; · iexact Hc
  iexists _; iexact HO

end Steps

end Cert.KProof
-- ==== Proof.Pieces.lean ====
/-
# The buffers cut into their pieces

Every buffer of the kernel is used in rectangular pieces along its leading axes: row chunks of `x`, column blocks of
`w`, slots of the slabs and of the output stages, chunks of the send and receive buffers, row blocks of the result.
A cut is a family of disjoint rectangles that covers the shape; a buffer owned whole is its pieces, and back.
-/
module

public import proofs.«01_k».proof.Proof.Sched

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family of disjoint rectangles that covers a shape. -/
structure Cut (s : Shape) (T : Type) [Fintype T] [DecidableEq T] where
  r : T → Rect s
  hr : ∀ t a, (r t).stride a = 1
  hd : ∀ t t', t ≠ t' → Disjoint (r t).set (r t').set
  hcov : (Finset.univ : Finset T).biUnion (fun t => (r t).set) = Finset.univ

/-- A family of rectangles covers when every index lies in one of them. -/
theorem cov_of_mem {s : Shape} {T : Type} [Fintype T] [DecidableEq T] {r : T → Rect s} (g : s.Idx → T) (h : ∀ i, i ∈ (r (g i)).set) :
    (Finset.univ : Finset T).biUnion (fun t => (r t).set) = Finset.univ :=
  Finset.eq_univ_iff_forall.mpr fun i => Finset.mem_biUnion.mpr ⟨g i, Finset.mem_univ _, h i⟩

theorem ne_lt {n : ℕ} {a b : Fin n} (h : a ≠ b) : a.val < b.val ∨ b.val < a.val := Nat.lt_or_gt_of_ne fun e => h (Fin.ext e)

def cutX : Cut S1024x4096 (Fin 4) where
  r := xR
  hr _ _ := rfl
  hd t t' h := Rect.unit_disjoint (0 : Fin 2) (by
    show 256 * t.val + 256 ≤ 256 * t'.val ∨ 256 * t'.val + 256 ≤ 256 * t.val
    rcases ne_lt h with h | h <;> omega)
  hcov := cov_of_mem (fun i => ⟨(i 0).val / 256, by have : (i 0).val < 1024 := (i 0).isLt; omega⟩) fun i => Rect.mem_set_unit.mpr fun a => by
    have h0 : (i 0).val < 1024 := (i 0).isLt
    have h1 : (i 1).val < 4096 := (i 1).isLt
    match a with
    | 0 => exact ⟨by show 256 * ((i 0).val / 256) ≤ (i 0).val; omega, by show (i 0).val < 256 * ((i 0).val / 256) + 256; omega⟩
    | 1 => exact ⟨Nat.zero_le _, by show (i 1).val < 0 + 4096; omega⟩

def cutO : Cut S1024x512 (Fin 4) where
  r := oR
  hr _ _ := rfl
  hd t t' h := Rect.unit_disjoint (0 : Fin 2) (by
    show 256 * t.val + 256 ≤ 256 * t'.val ∨ 256 * t'.val + 256 ≤ 256 * t.val
    rcases ne_lt h with h | h <;> omega)
  hcov := cov_of_mem (fun i => ⟨(i 0).val / 256, by have : (i 0).val < 1024 := (i 0).isLt; omega⟩) fun i => Rect.mem_set_unit.mpr fun a => by
    have h0 : (i 0).val < 1024 := (i 0).isLt
    have h1 : (i 1).val < 512 := (i 1).isLt
    match a with
    | 0 => exact ⟨by show 256 * ((i 0).val / 256) ≤ (i 0).val; omega, by show (i 0).val < 256 * ((i 0).val / 256) + 256; omega⟩
    | 1 => exact ⟨Nat.zero_le _, by show (i 1).val < 0 + 512; omega⟩

def cutC : Cut S4096x2048 (Fin 4) where
  r := cR
  hr _ _ := rfl
  hd t t' h := Rect.unit_disjoint (1 : Fin 2) (by
    show 512 * t.val + 512 ≤ 512 * t'.val ∨ 512 * t'.val + 512 ≤ 512 * t.val
    rcases ne_lt h with h | h <;> omega)
  hcov := cov_of_mem (fun i => ⟨(i 1).val / 512, by have : (i 1).val < 2048 := (i 1).isLt; omega⟩) fun i => Rect.mem_set_unit.mpr fun a => by
    have h0 : (i 0).val < 4096 := (i 0).isLt
    have h1 : (i 1).val < 2048 := (i 1).isLt
    match a with
    | 0 => exact ⟨Nat.zero_le _, by show (i 0).val < 0 + 4096; omega⟩
    | 1 => exact ⟨by show 512 * ((i 1).val / 512) ≤ (i 1).val; omega, by show (i 1).val < 512 * ((i 1).val / 512) + 512; omega⟩

def cutD : Cut S4096x512 (Fin 4) where
  r := dR
  hr _ _ := rfl
  hd t t' h := Rect.unit_disjoint (0 : Fin 2) (by
    show 1024 * t.val + 1024 ≤ 1024 * t'.val ∨ 1024 * t'.val + 1024 ≤ 1024 * t.val
    rcases ne_lt h with h | h <;> omega)
  hcov := cov_of_mem (fun i => ⟨(i 0).val / 1024, by have : (i 0).val < 4096 := (i 0).isLt; omega⟩) fun i => Rect.mem_set_unit.mpr fun a => by
    have h0 : (i 0).val < 4096 := (i 0).isLt
    have h1 : (i 1).val < 512 := (i 1).isLt
    match a with
    | 0 => exact ⟨by show 1024 * ((i 0).val / 1024) ≤ (i 0).val; omega, by show (i 0).val < 1024 * ((i 0).val / 1024) + 1024; omega⟩
    | 1 => exact ⟨Nat.zero_le _, by show (i 1).val < 0 + 512; omega⟩

def cutW : Cut S2x4096x512 (Fin 2) where
  r := wR
  hr _ _ := rfl
  hd t t' h := Rect.unit_disjoint (0 : Fin 3) (by
    show t.val + 1 ≤ t'.val ∨ t'.val + 1 ≤ t.val
    exact ne_lt h)
  hcov := cov_of_mem (fun i => (i 0 : Fin 2)) fun i => Rect.mem_set_unit.mpr fun a => by
    match a with
    | 0 => exact ⟨Nat.le_refl _, Nat.lt_succ_self _⟩
    | 1 => exact ⟨Nat.zero_le _, (Nat.zero_add _).symm ▸ (i 1).isLt⟩
    | 2 => exact ⟨Nat.zero_le _, (Nat.zero_add _).symm ▸ (i 2).isLt⟩

def cutS : Cut S2x1024x512 (Fin 2) where
  r := sR
  hr _ _ := rfl
  hd t t' h := Rect.unit_disjoint (0 : Fin 3) (by
    show t.val + 1 ≤ t'.val ∨ t'.val + 1 ≤ t.val
    exact ne_lt h)
  hcov := cov_of_mem (fun i => (i 0 : Fin 2)) fun i => Rect.mem_set_unit.mpr fun a => by
    match a with
    | 0 => exact ⟨Nat.le_refl _, Nat.lt_succ_self _⟩
    | 1 => exact ⟨Nat.zero_le _, (Nat.zero_add _).symm ▸ (i 1).isLt⟩
    | 2 => exact ⟨Nat.zero_le _, (Nat.zero_add _).symm ▸ (i 2).isLt⟩

def cutB : Cut S3x1024x512 (Fin 3 × Fin 4) where
  r t := bR t.1 t.2
  hr _ _ := rfl
  hd t t' h := by
    by_cases h0 : t.1 = t'.1
    · have h1 : t.2 ≠ t'.2 := fun e => h (Prod.ext h0 e)
      exact Rect.unit_disjoint (1 : Fin 3) (by
        show 256 * t.2.val + 256 ≤ 256 * t'.2.val ∨ 256 * t'.2.val + 256 ≤ 256 * t.2.val
        rcases ne_lt h1 with h | h <;> omega)
    · exact Rect.unit_disjoint (0 : Fin 3) (by
        show t.1.val + 1 ≤ t'.1.val ∨ t'.1.val + 1 ≤ t.1.val
        exact ne_lt h0)
  hcov := cov_of_mem (fun i => ((i 0 : Fin 3), ⟨(i 1).val / 256, by have : (i 1).val < 1024 := (i 1).isLt; omega⟩)) fun i => Rect.mem_set_unit.mpr fun a => by
    have h1 : (i 1).val < 1024 := (i 1).isLt
    match a with
    | 0 => exact ⟨Nat.le_refl _, Nat.lt_succ_self _⟩
    | 1 => exact ⟨by show 256 * ((i 1).val / 256) ≤ (i 1).val; omega, by show (i 1).val < 256 * ((i 1).val / 256) + 256; omega⟩
    | 2 => exact ⟨Nat.zero_le _, (Nat.zero_add _).symm ▸ (i 2).isLt⟩

section
variable {s : Shape} {T : Type} [Fintype T] [DecidableEq T] (C : Cut s T)

/-- Contents of the pieces as contents of the whole. -/
def Cut.glue {β : Type} (Z : (t : T) → (C.r t).shape.Idx → β) : s.Idx → β := Rect.glue C.r C.hcov Z

theorem Cut.glue_emb {β : Type} (Z : (t : T) → (C.r t).shape.Idx → β) (t : T) (j : (C.r t).shape.Idx) : C.glue Z ((C.r t).emb j) = Z t j :=
  Rect.glue_emb C.r C.hcov C.hd Z t j

variable {c : Dev nD} {sp : Space} {e : EltTy} {M : Memref sig .tc sp s e} {q : PosShare TreeShare}

/-- A buffer owned whole is its pieces, each at its part of the contents. -/
theorem own_cut (X : s.Idx → Elt F e) :
    own c M q X ⊢ bigSep Finset.univ fun t => own c (M.slice (C.r t) (C.hr t)) q (fun j => X ((C.r t).emb j)) :=
  owns_rects (c : Thread nD τ) M q C.r C.hr C.hd C.hcov X

/-- The pieces joined. -/
theorem own_glue (Z : (t : T) → (C.r t).shape.Idx → Elt F e) :
    (bigSep Finset.univ fun t => own c (M.slice (C.r t) (C.hr t)) q (Z t)) ⊢ own c M q (C.glue Z) := by
  refine .trans ?_ (owns_of_rects (c : Thread nD τ) M q C.r C.hr C.hd C.hcov (C.glue Z))
  refine Entails.of_eq (bigSep_congr fun t _ => ?_)
  rw [show (fun j => C.glue Z ((C.r t).emb j)) = Z t from funext fun j => C.glue_emb Z t j]

theorem any_intro {sh : Shape} {M : Memref sig .tc sp sh e} (X : sh.Idx → Elt F e) : own c M fullShare X ⊢ ownA (F := F) c M := by
  iintro H
  iexists X
  iexact H

theorem any_cut : ownA (F := F) c M ⊢ bigSep Finset.univ fun t => ownA (F := F) c (M.slice (C.r t) (C.hr t)) := by
  iintro ⟨%X, H⟩
  iapply (show own c M fullShare X ⊢ bigSep Finset.univ fun t => ownA (F := F) c (M.slice (C.r t) (C.hr t)) from
    (own_cut C X).trans (bigSep_mono fun t _ => any_intro _)) $$ H

theorem any_glue : (bigSep Finset.univ fun t => ownA (F := F) c (M.slice (C.r t) (C.hr t))) ⊢ ownA (F := F) c M := by
  refine (bigSep_exists_pi Finset.univ (fun t X => own c (M.slice (C.r t) (C.hr t)) fullShare X)).trans ?_
  iintro ⟨%Z, H⟩
  iexists (C.glue Z)
  iapply (own_glue C Z) $$ H

end

end Cert.KProof
-- ==== Proof.Steps.lean ====
/-
# The body's steps at the kernel's own pieces

Each theorem is one operation of the body in continuation form: from what it needs and from the rest of the body run on
what it leaves, the weakest precondition of the operation followed by the rest.
-/
module

public import proofs.«01_k».proof.Proof.Pieces

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The half of an argument that its local copies read; the other half stays behind. -/
abbrev lh : PosShare TreeShare := fullShare.left
abbrev rh : PosShare TreeShare := fullShare.right

/-! ## Local copies of `x` -/

abbrev xSv (c : Dev nD) (ch : Fin 4) : sProp 𝕄 := semVal ((c : Thread nD τ), .dma (xSem ch)) 0
abbrev wSv (c : Dev nD) (s : Fin 2) : sProp 𝕄 := semVal ((c : Thread nD τ), .dma (wSem s)) 0
abbrev oSv (c : Dev nD) (s : Fin 2) : sProp 𝕄 := semVal ((c : Thread nD τ), .dma (oSem s)) 0

/-- Before its copy: the chunk of `x`, its place in the buffer, its semaphore at zero. -/
abbrev xIdle (c : Dev nD) (ch : Fin 4) : sProp 𝕄 := iprop(own c (xHP ch) lh (xc m c ch) ∗ ownA c (xsP ch) ∗ xSv c ch)
/-- The copy in flight. -/
abbrev xFly (c : Dev nD) (ch : Fin 4) : sProp 𝕄 :=
  Fl c (xSem ch) (xsP ch).view.dmaCredit iprop(own c (xsP ch) fullShare (xc m c ch) ∗ own c (xHP ch) lh (xc m c ch))

abbrev wsQ (s : Fin 2) : Memref sig .tc .vmem S4096x512 .f32 := (wsP s).squeeze S4096x512 squeezes_S1x4096x512_S4096x512
abbrev wFree (c : Dev nD) (s : Fin 2) : sProp 𝕄 := iprop(ownA c (wsP s) ∗ wSv c s)
abbrev wSrc (c : Dev nD) (k : Fin 4) : sProp 𝕄 := own c (wHP k) lh (wc m c k)
/-- The copy of column block `k` into slot `s` in flight. -/
abbrev wFly (c : Dev nD) (s : Fin 2) (k : Fin 4) : sProp 𝕄 :=
  Fl c (wSem s) (wsQ s).view.dmaCredit iprop(own c (wsQ s) fullShare (wc m c k) ∗ own c (wHP k) lh (wc m c k))
abbrev wFull (c : Dev nD) (s : Fin 2) (k : Fin 4) : sProp 𝕄 := own c (wsP s) fullShare (wc1 m c k)

/-- The copy of output stage `s` at chunks `Z` to row block `k` of the result in flight. -/
abbrev oFly (c : Dev nD) (s : Fin 2) (k : Fin 4) (Z : Fin 4 → S256x512.Idx → F .f32) : sProp 𝕄 :=
  Fl c (oSem s) (oHP k).view.dmaCredit iprop(own c (oHP k) fullShare (cutO.glue Z) ∗ own c (osl s) fullShare (cutO.glue Z))

/-! ## The printed offsets and devices -/

theorem off1_own (c : Dev nD) : k0_off1 c 0#32 = ![0, 512 * c.val] := by revert c; decide
theorem off1_1 (c : Dev nD) : k0_off1 c 1#32 = ![0, 512 * (up c 0).val] := by revert c; decide
theorem off1_2 (c : Dev nD) : k0_off1 c 2#32 = ![0, 512 * (up c 1).val] := by revert c; decide
theorem off1_3 (c : Dev nD) : k0_off1 c 3#32 = ![0, 512 * (up c 2).val] := by revert c; decide
theorem off3_eq (c : Dev nD) : k0_off3 c = ![1024 * c.val, 0] := by revert c; decide
theorem off4_1 (c : Dev nD) : k0_off4 c 1#32 = ![1024 * (dn c 2).val, 0] := by revert c; decide
theorem off4_2 (c : Dev nD) : k0_off4 c 2#32 = ![1024 * (dn c 1).val, 0] := by revert c; decide
theorem off4_3 (c : Dev nD) : k0_off4 c 3#32 = ![1024 * (dn c 0).val, 0] := by revert c; decide

theorem dev1_eq (c : Dev nD) : (⟨k0_dev1 c, k0_dev1_lt c⟩ : Dev nD) = up c 0 := by revert c; decide
theorem dev2_eq (c : Dev nD) : (⟨k0_dev2 c, k0_dev2_lt c⟩ : Dev nD) = up c 1 := by revert c; decide
theorem dev3_eq (c : Dev nD) : (⟨k0_dev3 c, k0_dev3_lt c⟩ : Dev nD) = up c 2 := by revert c; decide
theorem dev4_eq (c : Dev nD) : (⟨k0_dev4 c, k0_dev4_lt c⟩ : Dev nD) = up c 1 := by revert c; decide
theorem dev5_eq (c : Dev nD) : (⟨k0_dev5 c, k0_dev5_lt c⟩ : Dev nD) = up c 1 := by revert c; decide
theorem dev6_eq (c : Dev nD) : (⟨k0_dev6 c, k0_dev6_lt c⟩ : Dev nD) = up c 1 := by revert c; decide
theorem dev7_eq (c : Dev nD) : (⟨k0_dev7 c, k0_dev7_lt c⟩ : Dev nD) = up c 1 := by revert c; decide
theorem dev8_eq (c : Dev nD) : (⟨k0_dev8 c, k0_dev8_lt c⟩ : Dev nD) = up c 0 := by revert c; decide
theorem dev9_eq (c : Dev nD) : (⟨k0_dev9 c, k0_dev9_lt c⟩ : Dev nD) = up c 0 := by revert c; decide
theorem dev10_eq (c : Dev nD) : (⟨k0_dev10 c, k0_dev10_lt c⟩ : Dev nD) = up c 0 := by revert c; decide
theorem dev11_eq (c : Dev nD) : (⟨k0_dev11 c, k0_dev11_lt c⟩ : Dev nD) = up c 0 := by revert c; decide
theorem dev12_eq (c : Dev nD) : (⟨k0_dev12 c, k0_dev12_lt c⟩ : Dev nD) = up c 2 := by revert c; decide
theorem dev13_eq (c : Dev nD) : (⟨k0_dev13 c, k0_dev13_lt c⟩ : Dev nD) = up c 2 := by revert c; decide
theorem dev14_eq (c : Dev nD) : (⟨k0_dev14 c, k0_dev14_lt c⟩ : Dev nD) = up c 2 := by revert c; decide
theorem dev15_eq (c : Dev nD) : (⟨k0_dev15 c, k0_dev15_lt c⟩ : Dev nD) = up c 2 := by revert c; decide

/-! ## The steps -/

section Steps

variable {m} {K : Dev nD × Key → ℕ} {c : Dev nD} {α : Type} {l : List Debt}

/-- The converted chunk of `x` is stored. -/
theorem x_store {Q : α → sProp 𝕄} (ch : Fin 4) {off} {inb} {w : S256x4096.Idx → Elt F .fp8e4m3}
    (hoff : off = ![256 * ch.val, 0]) (hw : w = xq m c ch)
    {hx : ((xf : Memref sig .tc .vmem _ .fp8e4m3).access (Rect.unit off S256x4096.size inb)).Stores Finset.univ} {hm}
    {k : PUnit → Prog (TpuEff nD τ sig (Elt F) Λ₀ .tc) α} :
    ownA c (xfP ch) ⊢ iprop((own c (xfP ch) fullShare (xq m c ch) -∗ wpB c (k ⟨⟩) Q)
      -∗ wpB c (.op (.store (xf) (Rect.unit off S256x4096.size inb) w Finset.univ hx hm) k) Q) := by
  subst hoff hw
  iintro ⟨%Y, H⟩ Hk
  iapply store_own $$ H
  iexact Hk

/-- The converted slab is stored. -/
theorem w_store {Q : α → sProp 𝕄} (s : Fin 2) (b : Fin 4) {off} {inb} {w : S1x4096x512.Idx → Elt F .fp8e4m3}
    (hoff : off = ![s.val, 0, 0]) (hw : w = wq m c b)
    {hx : ((wf : Memref sig .tc .vmem _ .fp8e4m3).access (Rect.unit off S1x4096x512.size inb)).Stores Finset.univ} {hm}
    {k : PUnit → Prog (TpuEff nD τ sig (Elt F) Λ₀ .tc) α} :
    ownA c (wfP s) ⊢ iprop((own c (wfP s) fullShare (wq m c b) -∗ wpB c (k ⟨⟩) Q)
      -∗ wpB c (.op (.store (wf) (Rect.unit off S1x4096x512.size inb) w Finset.univ hx hm) k) Q) := by
  subst hoff hw
  iintro ⟨%Y, H⟩ Hk
  iapply store_own $$ H
  iexact Hk

/-- A block is stored into its chunk of the send buffer. -/
theorem s_store {Q : α → sProp 𝕄} (j : Fin 3) (ch : Fin 4) {off} {inb} {w : S1x256x512.Idx → Elt F .bf16}
    (hoff : off = ![j.val, 256 * ch.val, 0]) (hw : w = sblk m c j ch)
    {hx : ((snd : Memref sig .tc .vmem _ .bf16).access (Rect.unit off S1x256x512.size inb)).Stores Finset.univ} {hm}
    {k : PUnit → Prog (TpuEff nD τ sig (Elt F) Λ₀ .tc) α} :
    ownA c (sP j ch) ⊢ iprop((own c (sP j ch) fullShare (sblk m c j ch) -∗ wpB c (k ⟨⟩) Q)
      -∗ wpB c (.op (.store (snd) (Rect.unit off S1x256x512.size inb) w Finset.univ hx hm) k) Q) := by
  subst hoff hw
  iintro ⟨%Y, H⟩ Hk
  iapply store_own $$ H
  iexact Hk

/-- A chunk of an output stage is stored. -/
theorem o_store {Q : α → sProp 𝕄} (s : Fin 2) (ch : Fin 4) (Z : S256x512.Idx → F .f32) {off} {inb} {w : S256x512.Idx → Elt F .f32}
    (hoff : off = ![256 * ch.val, 0]) (hw : w = Z)
    {hx : ((osl s : Memref sig .tc .vmem _ .f32).access (Rect.unit off S256x512.size inb)).Stores Finset.univ} {hm}
    {k : PUnit → Prog (TpuEff nD τ sig (Elt F) Λ₀ .tc) α} :
    ownA c (osP s ch) ⊢ iprop((own c (osP s ch) fullShare (Z) -∗ wpB c (k ⟨⟩) Q)
      -∗ wpB c (.op (.store (osl s) (Rect.unit off S256x512.size inb) w Finset.univ hx hm) k) Q) := by
  subst hoff hw
  iintro ⟨%Y, H⟩ Hk
  iapply store_own $$ H
  iexact Hk

/-- A load of a piece whose contents don't matter. -/
theorem load_any {Q : α → sProp 𝕄} {cs : CoreSpace} {s : Shape} {e : EltTy} {M : Memref sig .tc cs s e} {r : Rect s} {hr : ∀ a, r.stride a = 1}
    {hl : M.view.LoadsAt r.toLoadRect} {k : (r.shape.Idx → Elt F e) → Prog (TpuEff nD τ sig (Elt F) Λ₀ .tc) α} :
    ownA c (M.slice r hr) ⊢ iprop((∀ X, ownA c (M.slice r hr) -∗ wpB c (k X) Q) -∗ wpB c (.op (.load M r.toLoadRect hl) k) Q) := by
  iintro ⟨%X, H⟩ Hk
  iapply load_own $$ H
  iintro H
  ihave H := (any_intro X) $$ H
  iapply Hk $$ H

theorem dec_xSem (ch : Fin 4) : dec (.dma (xSem ch)) = none := by revert ch; decide
theorem dec_wSem (s : Fin 2) : dec (.dma (wSem s)) = none := by revert s; decide
theorem dec_oSem (s : Fin 2) : dec (.dma (oSem s)) = none := by revert s; decide

/-- A slab's slot as a matrix, and back. -/
theorem slot_in (s : Fin 2) (Y : S1x4096x512.Idx → Elt F .f32) : own c (wsP s) fullShare Y
    ⊢ own c (wsQ s) fullShare (fun j => Y (Shape.reshapeEquiv (squeezes_S1x4096x512_S4096x512).numel_eq j)) :=
  Entails.of_eq (own_squeeze (wsP s) squeezes_S1x4096x512_S4096x512 fullShare Y)

theorem slot_out (s : Fin 2) (b : Fin 4) : own c (wsQ s) fullShare (wc m c b) ⊢ wFull m c s b := by
  refine .trans (Entails.of_eq ?_) (Entails.of_eq (own_squeeze (wsP s) squeezes_S1x4096x512_S4096x512 fullShare (wc1 m c b)).symm)
  exact congrArg _ (funext fun j => (congrArg (wc m c b) (Equiv.symm_apply_apply _ j)).symm)

theorem stage_join (s : Fin 2) (Z : Fin 4 → S256x512.Idx → F .f32) :
    (four fun ch => own c (osP s ch) fullShare (Z ch)) ⊢ own c (osl s) fullShare (cutO.glue Z) :=
  (Entails.of_eq (bigSep_four fun ch => own c (osP s ch) fullShare (Z ch)).symm).trans (own_glue (M := osl s) cutO Z)

theorem stage_split (s : Fin 2) (X : S1024x512.Idx → Elt F .f32) : own c (osl s) fullShare X ⊢ (four fun ch => ownA (F := F) c (osP s ch)) :=
  (any_intro X).trans ((any_cut (M := osl s) cutO).trans (Entails.of_eq (bigSep_four fun ch => ownA (F := F) c (osP s ch))))

theorem oHP_pos (b : Fin 4) : 0 < (oHP b).view.dmaCredit := View.dmaCredit_pos _ (by decide)

theorem x_start {Q : α → sProp 𝕄} {k : PUnit → Prog (TpuEff nD τ sig (Elt F) Λ₀ .tc) α} (ch : Fin 4)
    {sm : DmaSem sig} {src : Memref sig .tc .hbm S256x4096 .f32} {dst : Memref sig .tc .vmem S256x4096 .f32}
    (hsm : sm = xSem ch) (hs : src = xHP ch) (hd : dst = xsP ch)
    {hsrc : src.view.WordExact} {hdst : dst.view.WordExact} {hsem : DmaTarget.Typed (nD := nD) (τ := τ) (p := .tc) .hbm (.dma sm) (.here dst)} :
    xIdle m c ch ⊢ iprop((xFly m c ch -∗ wpB c (k ⟨⟩) Q) -∗ wpB c (.op (.enqueueDma src (.here dst) (.dma sm) hsrc hdst hsem) k) Q) := by
  subst hs hd
  iintro ⟨Hs, ⟨%Y, Hd⟩, Hv⟩ Hk
  iapply (start_own (xSem ch) hsm (View.dmaCredit_pos _ (by decide))) $$ Hs Hd Hv
  iexact Hk

theorem x_wait {Q : α → sProp 𝕄} {k : PUnit → Prog (TpuEff nD τ sig (Elt F) Λ₀ .tc) α} (ch : Fin 4)
    {sm : DmaSem sig} {src : Memref sig .tc .hbm S256x4096 .f32} {dst : Memref sig .tc .vmem S256x4096 .f32}
    (hsm : sm = xSem ch) (hd : dst = xsP ch) {hsrc : src.view.WordExact} {hdst : dst.view.WordExact} :
    env m K ⊢ iprop(xFly m c ch -∗ Ow c l -∗ ((own c (xsP ch) fullShare (xc m c ch) ∗ xSv c ch ∗ Ow c l) -∗ wpB c (k ⟨⟩) Q)
      -∗ wpB c (.op (.waitDma2 sm src dst hsrc hdst) k) Q) := by
  subst hd
  iintro #HE Hf HO Hk
  ihave Hm := (env_lev m K) $$ HE
  ihave Hm := (mayWait_local c (.dma (xSem ch)) (dec_xSem ch) l) $$ Hm
  iapply (wait_own (xSem ch) hsm _ rfl) $$ Hf HO Hm
  iintro ⟨⟨Hd, -⟩, Hv, HO⟩
  iapply Hk
  isplitl [Hd]; · iexact Hd
  isplitl [Hv]; · iexact Hv
  iexact HO

theorem w_start {Q : α → sProp 𝕄} {k : PUnit → Prog (TpuEff nD τ sig (Elt F) Λ₀ .tc) α} (s : Fin 2) (b : Fin 4)
    {sm : DmaSem sig} {dst : Memref sig .tc .vmem S4096x512 .f32} {off : Fin 2 → Nat} {inb}
    (hsm : sm = wSem s) (hoff : off = ![0, 512 * b.val]) (hd : dst = wsQ s)
    {hsrc : (wH.slice (Rect.unit (s := S4096x2048) off S4096x512.size inb) (fun _ => rfl)).view.WordExact} {hdst : dst.view.WordExact}
    {hsem : DmaTarget.Typed (nD := nD) (τ := τ) (p := .tc) .hbm (.dma sm) (.here dst)} :
    wFree c s ⊢ iprop(wSrc m c b -∗ (wFly m c s b -∗ wpB c (k ⟨⟩) Q)
      -∗ wpB c (.op (.enqueueDma (wH.slice (Rect.unit (s := S4096x2048) off S4096x512.size inb) (fun _ => rfl)) (.here dst) (.dma sm) hsrc hdst hsem) k) Q) := by
  subst hoff hd
  iintro ⟨⟨%Y, Hd⟩, Hv⟩ Hs Hk
  ihave Hd := (slot_in s Y) $$ Hd
  iapply (start_own (wSem s) hsm (View.dmaCredit_pos _ (by decide))) $$ Hs Hd Hv
  iexact Hk

theorem w_wait {Q : α → sProp 𝕄} {k : PUnit → Prog (TpuEff nD τ sig (Elt F) Λ₀ .tc) α} (s : Fin 2) (b : Fin 4)
    {sm : DmaSem sig} {src : Memref sig .tc .hbm S4096x512 .f32} {dst : Memref sig .tc .vmem S4096x512 .f32}
    (hsm : sm = wSem s) (hd : dst = wsQ s) {hsrc : src.view.WordExact} {hdst : dst.view.WordExact} :
    env m K ⊢ iprop(wFly m c s b -∗ Ow c l -∗ ((wFull m c s b ∗ wSv c s ∗ Ow c l) -∗ wpB c (k ⟨⟩) Q)
      -∗ wpB c (.op (.waitDma2 sm src dst hsrc hdst) k) Q) := by
  subst hd
  iintro #HE Hf HO Hk
  ihave Hm := (env_lev m K) $$ HE
  ihave Hm := (mayWait_local c (.dma (wSem s)) (dec_wSem s) l) $$ Hm
  iapply (wait_own (wSem s) hsm _ rfl) $$ Hf HO Hm
  iintro ⟨⟨Hd, -⟩, Hv, HO⟩
  iapply Hk
  isplitl [Hd]
  · iapply (slot_out s b) $$ Hd
  isplitl [Hv]; · iexact Hv
  iexact HO

theorem out_start {Q : α → sProp 𝕄} {k : PUnit → Prog (TpuEff nD τ sig (Elt F) Λ₀ .tc) α} (s : Fin 2) (b : Fin 4) (Z : Fin 4 → S256x512.Idx → F .f32)
    {sm : DmaSem sig} {src : Memref sig .tc .vmem S1024x512 .f32} {off : Fin 2 → Nat} {inb}
    (hsm : sm = oSem s) (hs : src = osl s) (hoff : off = ![1024 * b.val, 0])
    {hsrc : src.view.WordExact} {hdst : (oH.slice (Rect.unit (s := S4096x512) off S1024x512.size inb) (fun _ => rfl)).view.WordExact}
    {hsem : DmaTarget.Typed (nD := nD) (τ := τ) (p := .tc) .vmem (.dma sm) (.here (oH.slice (Rect.unit (s := S4096x512) off S1024x512.size inb) (fun _ => rfl)))} :
    (four fun ch => own c (osP s ch) fullShare (Z ch)) ⊢ iprop(ownA c (oHP b) -∗ oSv c s -∗ (oFly c s b Z -∗ wpB c (k ⟨⟩) Q)
      -∗ wpB c (.op (.enqueueDma src (.here (oH.slice (Rect.unit (s := S4096x512) off S1024x512.size inb) (fun _ => rfl))) (.dma sm) hsrc hdst hsem) k) Q) := by
  subst hs hoff
  iintro Hs ⟨%Y, Hd⟩ Hv Hk
  ihave Hs := (stage_join s Z) $$ Hs
  iapply (start_own (oSem s) hsm (oHP_pos b)) $$ Hs Hd Hv
  iexact Hk

theorem out_wait {Q : α → sProp 𝕄} {k : PUnit → Prog (TpuEff nD τ sig (Elt F) Λ₀ .tc) α} (s : Fin 2) (b : Fin 4) (Z : Fin 4 → S256x512.Idx → F .f32)
    {sm : DmaSem sig} {src : Memref sig .tc .vmem S1024x512 .f32} {off : Fin 2 → Nat} {inb}
    (hsm : sm = oSem s) (hoff : off = ![1024 * b.val, 0])
    {hsrc : src.view.WordExact} {hdst : (oH.slice (Rect.unit (s := S4096x512) off S1024x512.size inb) (fun _ => rfl)).view.WordExact} :
    env m K ⊢ iprop(oFly c s b Z -∗ Ow c l
      -∗ ((own c (oHP b) fullShare (cutO.glue Z) ∗ (four fun ch => ownA c (osP s ch)) ∗ oSv c s ∗ Ow c l) -∗ wpB c (k ⟨⟩) Q)
      -∗ wpB c (.op (.waitDma2 sm src (oH.slice (Rect.unit (s := S4096x512) off S1024x512.size inb) (fun _ => rfl)) hsrc hdst) k) Q) := by
  subst hoff
  iintro #HE Hf HO Hk
  ihave Hm := (env_lev m K) $$ HE
  ihave Hm := (mayWait_local c (.dma (oSem s)) (dec_oSem s) l) $$ Hm
  iapply (wait_own (oSem s) hsm _ rfl) $$ Hf HO Hm
  iintro ⟨⟨Hd, Hs⟩, Hv, HO⟩
  ihave Hs := (stage_split s _) $$ Hs
  iapply Hk
  isplitl [Hd]; · iexact Hd
  isplitl [Hs]; · iexact Hs
  isplitl [Hv]; · iexact Hv
  iexact HO

theorem S1_one (i j : S1.Idx) : i = j := by revert i j; decide

/-- Reading a scale. -/
theorem smem_step {Q : α → sProp 𝕄} {M : Memref sig .tc .smem S1 .f32} {r : Rect S1} {hl : M.view.LoadsAt r.toLoadRect}
    {k : (r.shape.Idx → Elt F .f32) → Prog (TpuEff nD τ sig (Elt F) Λ₀ .tc) α} {X : S1.Idx → Elt F .f32} :
    own c M fullShare X ⊢ iprop((own c M fullShare X -∗ wpB c (k (fun _ => X (Shape.Idx.first (by decide : 0 < S1.numel)))) Q) -∗ wpB c (.op (.load M r.toLoadRect hl) k) Q) := by
  iintro H Hk
  ihave H' := (show own c M fullShare X ⊢ iprop(∃ g, ⌜M.view.read (Elt F) g = X⌝
    ∗ M.view.loc (c : Thread nD τ) ↦[M.view.set]{fullShare} g) from .rfl) $$ H
  icases H' with ⟨%f, %hf, H⟩
  iapply (wp_load_rect 𝒱₀ (c : Thread nD τ) none Set.univ (m := M) (r := r) (View.set_slice_subset M.view r)) $$ H
  iintro H
  rw [show (M.access r).read (Elt F) f = fun _ => X (Shape.Idx.first (by decide : 0 < S1.numel)) from by
    rw [← hf]; exact funext fun j => congrArg (M.view.read (Elt F) f) (S1_one (r.emb j) _)]
  iapply Hk
  rw [← hf]
  iapply (owns_intro (c : Thread nD τ) M fullShare f) $$ H

/-- The wait for an own chunk to have been read: the chunk of the send buffer back, its cell closed. -/
theorem sent_wait {Q : α → sProp 𝕄} {cont : PUnit → Prog (TpuEff nD τ sig (Elt F) Λ₀ .tc) α} (j : Fin 3) (ch : Fin 4)
    {src dst : Memref sig .tc .vmem S256x512 .bf16} {sm : DmaSem sig}
    (hsm : sm = sSem j ch) (hd : dst = sQ j ch) {hsrc : src.view.WordExact} {hdst : dst.view.WordExact} :
    env m K ⊢ iprop(cred (tallyAt (cell c (some (false, j, ch))) () N) -∗ atPos ER (cell c (some (false, j, ch))) 0 ∅ 0 -∗ Ow c []
      -∗ ((own c (sP j ch) fullShare (sblk m c j ch) ∗ semVal (cell c (some (false, j, ch))) 0 ∗ Ow c []) -∗ wpB c (cont ⟨⟩) Q)
      -∗ wpB c (.op (.waitDma2 sm src dst hsrc hdst) cont) Q) := by
  subst hsm hd
  exact chunk_wait false j ch rfl rfl

/-- The wait for a chunk from the device before: it holds that device's block, and its cell is closed. -/
theorem recv_wait {Q : α → sProp 𝕄} {cont : PUnit → Prog (TpuEff nD τ sig (Elt F) Λ₀ .tc) α} (j : Fin 3) (ch : Fin 4)
    {src dst : Memref sig .tc .vmem S256x512 .bf16} {sm : DmaSem sig}
    (hsm : sm = rSem j ch) (hd : dst = rQ j ch) {hsrc : src.view.WordExact} {hdst : dst.view.WordExact} :
    env m K ⊢ iprop(cred (tallyAt (cell c (some (true, j, ch))) () N) -∗ atPos ER (cell c (some (true, j, ch))) 0 ∅ 0 -∗ Ow c []
      -∗ ((own c (rP j ch) fullShare (sblk m (dn c j) j ch) ∗ semVal (cell c (some (true, j, ch))) 0 ∗ Ow c []) -∗ wpB c (cont ⟨⟩) Q)
      -∗ wpB c (.op (.waitDma2 sm src dst hsrc hdst) cont) Q) := by
  subst hsm hd
  exact chunk_wait true j ch rfl rfl

end Steps

end Cert.KProof
-- ==== Proof.Body1.lean ====
/-
# The body's first part: the copies of `x` start, the handshake, the first conversions
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body at the kernel's buffers and semaphores. -/
abbrev at' {β : Sort*} (p : (arg0 : Memref sig .tc .hbm S1024x4096 .f32) → arg0.IsWhole → (arg1 : Memref sig .tc .hbm S4096x2048 .f32) → arg1.IsWhole
    → (arg2 : Memref sig .tc .smem S1 .f32) → arg2.IsWhole → (arg3 : Memref sig .tc .smem S1 .f32) → arg3.IsWhole
    → (arg4 : Memref sig .tc .hbm S4096x512 .f32) → arg4.IsWhole → (arg5 : Memref sig .tc .vmem S1024x4096 .f32) → arg5.IsWhole
    → (arg6 : Memref sig .tc .vmem S1024x4096 .fp8e4m3) → arg6.IsWhole → (arg7 : Memref sig .tc .vmem S2x4096x512 .f32) → arg7.IsWhole
    → (arg8 : Memref sig .tc .vmem S2x4096x512 .fp8e4m3) → arg8.IsWhole → (arg9 : Memref sig .tc .vmem S3x1024x512 .bf16) → arg9.IsWhole
    → (arg10 : Memref sig .tc .vmem S3x1024x512 .bf16) → arg10.IsWhole → (arg11 : Memref sig .tc .vmem S2x1024x512 .f32) → arg11.IsWhole
    → DmaSems sig S4 → DmaSems sig S2 → DmaSems sig S3x4 → DmaSems sig S3x4 → DmaSems sig S2 → β) : β :=
  p xH (Memref.isWhole_whole _) wH (Memref.isWhole_whole _) sxM (Memref.isWhole_whole _) swM (Memref.isWhole_whole _)
    oH (Memref.isWhole_whole _) xst (Memref.isWhole_whole _) xf (Memref.isWhole_whole _) wsl (Memref.isWhole_whole _)
    wf (Memref.isWhole_whole _) snd (Memref.isWhole_whole _) rcv (Memref.isWhole_whole _) ost (Memref.isWhole_whole _)
    cc0_scratch7 cc0_scratch8 cc0_scratch9 cc0_scratch10 cc0_scratch11

/-! ## What the parts hand on -/

/-- A landed chunk of `x`, its semaphore at zero. -/
abbrev xCv (c : Dev nD) (ch : Fin 4) : sProp 𝕄 := iprop(own c (xsP ch) fullShare (xc m c ch) ∗ xSv c ch)
/-- A converted chunk of `x`, and a converted slab. -/
abbrev xQ (c : Dev nD) (ch : Fin 4) : sProp 𝕄 := own c (xfP ch) fullShare (xq m c ch)
abbrev wQ (c : Dev nD) (s : Fin 2) (b : Fin 4) : sProp 𝕄 := own c (wfP s) fullShare (wq m c b)
/-- A chunk of the send buffer filled. -/
abbrev sB (c : Dev nD) (j : Fin 3) (ch : Fin 4) : sProp 𝕄 := own c (sP j ch) fullShare (sblk m c j ch)
/-- What a chunk's transfer needs beside the chunk. -/
abbrev tg (c : Dev nD) (j : Fin 3) (ch : Fin 4) : sProp 𝕄 := iprop(ownA (F := F) (up c j) (rP j ch) ∗ tok c j ch)
/-- The credit that a started transfer leaves on its send cell. -/
abbrev sC (c : Dev nD) (j : Fin 3) (ch : Fin 4) : sProp 𝕄 := cred (tallyAt (cell c (some (false, j, ch))) () N)
abbrev sxO (c : Dev nD) : sProp 𝕄 := own c sxM fullShare (sxArr m c)
abbrev swO (c : Dev nD) : sProp 𝕄 := own c swM fullShare (swArr m c)

section Parts

variable {m} {K : Dev nD × Key → ℕ} {c : Dev nD}

variable {β : Type} {l : List Debt}

theorem part1 {Q : β → sProp 𝕄} {k : (Σ' (d0 : Dev nD), BitVec 32) → Prog (TpuEff nD τ sig (Elt F) Λ₀ .tc) β} :
    env m K ⊢ iprop(xIdle m c 0 -∗ xIdle m c 1 -∗ wFree c 0 -∗ wSrc m c (up c 1)
      -∗ (∀ v, xFly m c 0 -∗ xFly m c 1 -∗ wFly m c 0 (up c 1) -∗ wpB c (k ⟨c, v⟩) Q)
      -∗ wpB c (at' (k0_part1 (F := F)) >>= k) Q) := by
  unfold at'
  rw [k0_part1_eq_skeleton]; unfold k0_part1_skel
  simp only [Prog.lift, Prog.bind_op, Prog.bind_ret, Prog.pure_eq_ret, wp_deviceId]
  iintro #HE Hx0 Hx1 Hw Hws Hk
  iapply (x_start 0 rfl rfl rfl) $$ Hx0
  iintro Hx0
  iapply (w_start 0 (up c 1) rfl (off1_2 c) rfl) $$ Hw Hws
  iintro Hw
  iapply (x_start 1 rfl rfl rfl) $$ Hx1
  iintro Hx1
  iapply Hk $$ Hx0 Hx1 Hw

theorem part2 {Q : β → sProp 𝕄} {k : (Σ' (v36 : Sems sig S_), BitVec 32) → Prog (TpuEff nD τ sig (Elt F) Λ₀ .tc) β} {v2 : BitVec 32} :
    env m K ⊢ iprop(xIdle m c 2 -∗ xIdle m c 3 -∗ (four fun ch => ownA c (rP 2 ch)) -∗ dutyTok ER (cell (up c 0) none) 0 2 -∗ Ow c (.inl 0 :: l)
      -∗ (∀ v, xFly m c 2 -∗ xFly m c 3 -∗ Ow c l -∗ wpB c (k ⟨SemArray.scalar (sig.barrier 0 rfl), v⟩) Q)
      -∗ wpB c (at' (k0_part2 (F := F)) c v2 >>= k) Q) := by
  unfold at'
  rw [k0_part2_eq_skeleton]; unfold k0_part2_skel
  simp only [semSignalWord, Prog.lift, Prog.bind_op, Prog.bind_ret, Prog.pure_eq_ret]
  iintro #HE Hx0 Hx1 Hr Ht HO Hk
  iapply (x_start 2 rfl rfl rfl) $$ Hx0
  iintro Hx0
  iapply (x_start 3 rfl rfl rfl) $$ Hx1
  iintro Hx1
  iapply (signal_step 0 2 rfl (dev1_eq c) rfl rfl) $$ HE Hr Ht HO
  iintro HO
  iapply Hk $$ Hx0 Hx1 HO

theorem part3 {Q : β → sProp 𝕄} {k : (Σ' (v78 : F .f32), BitVec 32) → Prog (TpuEff nD τ sig (Elt F) Λ₀ .tc) β} {v2 v60 : BitVec 32}
    (hl : ∀ x ∈ l, ∃ y, x = .inr y) :
    env m K ⊢ iprop((four fun ch => ownA c (rP 1 ch)) -∗ dutyTok ER (cell (up c 1) none) 0 1
      -∗ (four fun ch => ownA c (rP 0 ch)) -∗ dutyTok ER (cell (up c 2) none) 0 0
      -∗ cred (tallyAt (cell c none) () 3) -∗ atPos ER (cell c none) 0 ∅ 0 -∗ Ow c (.inl 1 :: .inl 2 :: l)
      -∗ sxO m c -∗ swO m c -∗ xFly m c 0 -∗ ownA c (xfP 0)
      -∗ (∀ v, (three fun j => four fun ch => ownA (up c j) (rP j ch)) -∗ semVal (cell c none) 0 -∗ Ow c l
          -∗ sxO m c -∗ swO m c -∗ xCv m c 0 -∗ xQ m c 0 -∗ wpB c (k ⟨scl m c, v⟩) Q)
      -∗ wpB c (at' (k0_part3 (F := F)) c v2 (SemArray.scalar (sig.barrier 0 rfl)) v60 >>= k) Q) := by
  unfold at'
  rw [k0_part3_eq_skeleton]; unfold k0_part3_skel
  simp only [semSignalWord, semWaitWord, smemLoad, smemLoadElt, Prog.lift, Prog.bind_op, Prog.bind_ret, Prog.pure_eq_ret]
  iintro #HE Hr Ht Hr' Ht' Hc Hat HO Hsx Hsw Hx Hf Hk
  iapply (signal_step 1 1 rfl (dev2_eq c) rfl rfl) $$ HE Hr Ht HO
  iintro HO
  iapply (signal_step 2 0 rfl (dev3_eq c) rfl rfl) $$ HE Hr' Ht' HO
  iintro HO
  iapply (bar_wait hl rfl rfl) $$ HE Hc Hat HO
  iintro ⟨Hp, Hb, HO⟩
  iapply smem_step $$ Hsx
  iintro Hsx
  iapply smem_step $$ Hsw
  iintro Hsw
  iapply (x_wait 0 rfl rfl) $$ HE Hx HO
  iintro ⟨Hx, Hv, HO⟩
  iapply load_own $$ Hx
  iintro Hx
  iapply load_any $$ Hf
  iintro %Y Hf
  iapply (x_store 0 rfl rfl) $$ Hf
  iintro Hf
  iapply Hk $$ Hp Hb HO Hsx Hsw [Hx Hv] Hf
  isplitl [Hx]; · iexact Hx
  iexact Hv

theorem part4 {Q : β → sProp 𝕄} {k : BitVec 32 → Prog (TpuEff nD τ sig (Elt F) Λ₀ .tc) β} {v2 v88 : BitVec 32} :
    env m K ⊢ iprop(wFree c 1 -∗ wSrc m c (up c 0) -∗ wFly m c 0 (up c 1) -∗ Ow c l
      -∗ (∀ v, wFly m c 1 (up c 0) -∗ wFull m c 0 (up c 1) -∗ wSv c 0 -∗ Ow c l -∗ wpB c (k v) Q)
      -∗ wpB c (at' (k0_part4 (F := F)) c v2 v88 >>= k) Q) := by
  unfold at'
  rw [k0_part4_eq_skeleton]; unfold k0_part4_skel
  simp only [Prog.lift, Prog.bind_op, Prog.bind_ret, Prog.pure_eq_ret]
  iintro #HE Hw1 Hws Hw0 HO Hk
  iapply (w_start 1 (up c 0) rfl (off1_1 c) rfl) $$ Hw1 Hws
  iintro Hw1
  iapply (w_wait 0 (up c 1) rfl rfl) $$ HE Hw0 HO
  iintro ⟨Hw0, Hv, HO⟩
  iapply Hk $$ Hw1 Hw0 Hv HO

theorem part5 {Q : β → sProp 𝕄} {k : PUnit → Prog (TpuEff nD τ sig (Elt F) Λ₀ .tc) β} {v98 : BitVec 32} :
    env m K ⊢ iprop(wFull m c 0 (up c 1) -∗ ownA c (wfP 0) -∗ xQ m c 0 -∗ ownA c (sP 1 0)
      -∗ (ownA c (wsP 0) -∗ wQ m c 0 (up c 1) -∗ xQ m c 0 -∗ sB m c 1 0 -∗ wpB c (k ⟨⟩) Q)
      -∗ wpB c (at' (k0_part5 (F := F)) (scl m c) v98 >>= k) Q) := by
  unfold at'
  rw [k0_part5_eq_skeleton]; unfold k0_part5_skel
  simp only [Prog.lift, Prog.bind_op, Prog.bind_ret, Prog.pure_eq_ret]
  iintro #HE Hw Hf Hx Hs Hk
  iapply load_own $$ Hw
  iintro Hw
  iapply load_any $$ Hf
  iintro %Y Hf
  iapply (w_store 0 (up c 1) rfl rfl) $$ Hf
  iintro Hf
  iapply load_own $$ Hx
  iintro Hx
  iapply load_own $$ Hf
  iintro Hf
  iapply load_any $$ Hs
  iintro %Z Hs
  iapply (s_store 1 0 rfl rfl) $$ Hs
  iintro Hs
  ihave Hw := (any_intro (M := wsP 0) (wc1 m c (up c 1))) $$ Hw
  iapply Hk $$ Hw Hf Hx Hs

theorem part6 {Q : β → sProp 𝕄} {k : PUnit → Prog (TpuEff nD τ sig (Elt F) Λ₀ .tc) β} :
    env m K ⊢ iprop(sB m c 1 0 -∗ tg c 1 0 -∗ Ow c (.inr (1, 0) :: l) -∗ xFly m c 1 -∗ ownA c (xfP 1) -∗ wQ m c 0 (up c 1) -∗ ownA c (sP 1 1)
      -∗ (sC c 1 0 -∗ Ow c l -∗ xCv m c 1 -∗ xQ m c 1 -∗ wQ m c 0 (up c 1) -∗ sB m c 1 1 -∗ wpB c (k ⟨⟩) Q)
      -∗ wpB c (at' (k0_part6 (F := F)) c (scl m c) >>= k) Q) := by
  unfold at'
  rw [k0_part6_eq_skeleton]; unfold k0_part6_skel
  simp only [Prog.lift, Prog.bind_op, Prog.bind_ret, Prog.pure_eq_ret]
  iintro #HE Hb ⟨Hr, Ht⟩ HO Hx Hf Hw Hs Hk
  iapply (send_step 1 0 (dev4_eq c) rfl rfl rfl rfl) $$ HE Hb Hr Ht HO
  iintro ⟨Hc, HO⟩
  iapply (x_wait 1 rfl rfl) $$ HE Hx HO
  iintro ⟨Hx, Hv, HO⟩
  iapply load_own $$ Hx
  iintro Hx
  iapply load_any $$ Hf
  iintro %Y Hf
  iapply (x_store 1 rfl rfl) $$ Hf
  iintro Hf
  iapply load_own $$ Hf
  iintro Hf
  iapply load_own $$ Hw
  iintro Hw
  iapply load_any $$ Hs
  iintro %Z Hs
  iapply (s_store 1 1 rfl rfl) $$ Hs
  iintro Hs
  iapply Hk $$ Hc HO [Hx Hv] Hf Hw Hs
  isplitl [Hx]; · iexact Hx
  iexact Hv

theorem part7 {Q : β → sProp 𝕄} {k : (Σ' (v207 : FVec F S256x512 .f32), FVec F S256x512 .f32) → Prog (TpuEff nD τ sig (Elt F) Λ₀ .tc) β} {v98 : BitVec 32} :
    env m K ⊢ iprop(sB m c 1 1 -∗ tg c 1 1 -∗ Ow c (.inr (1, 1) :: l) -∗ xFly m c 2 -∗ ownA c (xfP 2) -∗ wQ m c 0 (up c 1)
      -∗ (sC c 1 1 -∗ Ow c l -∗ xCv m c 2 -∗ xQ m c 2 -∗ wQ m c 0 (up c 1)
        -∗ wpB c (k ⟨k0_pay8 (scl m c) (xq m c 2) (wq m c (up c 1)), k0_pay9 (scl m c) (xq m c 2) (wq m c (up c 1))⟩) Q)
      -∗ wpB c (at' (k0_part7 (F := F)) c (scl m c) v98 >>= k) Q) := by
  unfold at'
  rw [k0_part7_eq_skeleton]; unfold k0_part7_skel
  simp only [Prog.lift, Prog.bind_op, Prog.bind_ret, Prog.pure_eq_ret]
  iintro #HE Hb ⟨Hr, Ht⟩ HO Hx Hf Hw Hk
  iapply (send_step 1 1 (dev5_eq c) rfl rfl rfl rfl) $$ HE Hb Hr Ht HO
  iintro ⟨Hc, HO⟩
  iapply (x_wait 2 rfl rfl) $$ HE Hx HO
  iintro ⟨Hx, Hv, HO⟩
  iapply load_own $$ Hx
  iintro Hx
  iapply load_any $$ Hf
  iintro %Y Hf
  iapply (x_store 2 rfl rfl) $$ Hf
  iintro Hf
  iapply load_own $$ Hf
  iintro Hf
  iapply load_own $$ Hw
  iintro Hw
  iapply Hk $$ Hc HO [Hx Hv] Hf Hw
  isplitl [Hx]; · iexact Hx
  iexact Hv

theorem part8 {Q : β → sProp 𝕄} {k : Vec F S256x4096 .fp8e4m3 → Prog (TpuEff nD τ sig (Elt F) Λ₀ .tc) β} {v98 : BitVec 32} :
    env m K ⊢ iprop(ownA c (sP 1 2) -∗ tg c 1 2 -∗ Ow c (.inr (1, 2) :: l) -∗ xFly m c 3 -∗ ownA c (xfP 3)
      -∗ (sC c 1 2 -∗ Ow c l -∗ xCv m c 3 -∗ xQ m c 3 -∗ wpB c (k (xq m c 3)) Q)
      -∗ wpB c (at' (k0_part8 (F := F)) c v98 (k0_pay8 (scl m c) (xq m c 2) (wq m c (up c 1))) (k0_pay9 (scl m c) (xq m c 2) (wq m c (up c 1))) >>= k) Q) := by
  unfold at'
  rw [k0_part8_eq_skeleton]; unfold k0_part8_skel
  simp only [Prog.lift, Prog.bind_op, Prog.bind_ret, Prog.pure_eq_ret]
  iintro #HE Hs ⟨Hr, Ht⟩ HO Hx Hf Hk
  iapply load_any $$ Hs
  iintro %Z Hs
  iapply (s_store 1 2 rfl rfl) $$ Hs
  iintro Hb
  iapply (send_step 1 2 (dev6_eq c) rfl rfl rfl rfl) $$ HE Hb Hr Ht HO
  iintro ⟨Hc, HO⟩
  iapply (x_wait 3 rfl rfl) $$ HE Hx HO
  iintro ⟨Hx, Hv, HO⟩
  iapply load_own $$ Hx
  iintro Hx
  iapply load_any $$ Hf
  iintro %Y Hf
  iapply (x_store 3 rfl rfl) $$ Hf
  iintro Hf
  iapply load_own $$ Hf
  iintro Hf
  iapply Hk $$ Hc HO [Hx Hv] Hf
  isplitl [Hx]; · iexact Hx
  iexact Hv

theorem part9 {Q : β → sProp 𝕄} {k : (Σ' (v269 : BitVec 32) (v270 : BitVec 32) (v271 : BitVec 1), BitVec 32) → Prog (TpuEff nD τ sig (Elt F) Λ₀ .tc) β} {v2 v98 : BitVec 32} :
    env m K ⊢ iprop(wQ m c 0 (up c 1) -∗ ownA c (sP 1 3) -∗ tg c 1 3 -∗ Ow c (.inr (1, 3) :: l)
      -∗ (∀ v, sC c 1 3 -∗ Ow c l -∗ wQ m c 0 (up c 1) -∗ wpB c (k v) Q)
      -∗ wpB c (at' (k0_part9 (F := F)) c v2 (scl m c) v98 (xq m c 3) >>= k) Q) := by
  unfold at'
  rw [k0_part9_eq_skeleton]; unfold k0_part9_skel
  simp only [Prog.lift, Prog.bind_op, Prog.bind_ret, Prog.pure_eq_ret]
  iintro #HE Hw Hs ⟨Hr, Ht⟩ HO Hk
  iapply load_own $$ Hw
  iintro Hw
  iapply load_any $$ Hs
  iintro %Z Hs
  iapply (s_store 1 3 rfl rfl) $$ Hs
  iintro Hb
  iapply (send_step 1 3 (dev7_eq c) rfl rfl rfl rfl) $$ HE Hb Hr Ht HO
  iintro ⟨Hc, HO⟩
  iapply Hk $$ Hc HO Hw

end Parts

end Cert.KProof
-- ==== Proof.Body2.lean ====
/-
# The body's middle part: the other two slabs and their transfers
-/
module

public import proofs.«01_k».proof.Proof.Body1

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {m : (ℓ : Loc nD τ sig) → Buf (Elt F) ℓ} {c : Dev nD} {K : Dev nD × Key → ℕ} {l : List Debt} {β : Type}

theorem part10 {Q : β → sProp 𝕄} {k : (Σ' (v277 : BitVec 32), FVec F S4096x512 .fp8e4m3) → Prog (TpuEff nD τ sig (Elt F) Λ₀ .tc) β}
    {v2 v269 v270 : BitVec 32} {v271 : BitVec 1} {c0 : BitVec 32} :
    env m K ⊢ iprop(wFree c 0 -∗ wSrc m c (up c 2) -∗ wFly m c 1 (up c 0) -∗ Ow c l
      -∗ (∀ v, wFly m c 0 (up c 2) -∗ wFree c 1 -∗ Ow c l -∗ wpB c (k ⟨v, k0_pay13 (wc1 m c (up c 0))⟩) Q)
      -∗ wpB c (at' (k0_part10 (F := F)) c v2 v269 v270 v271 c0 >>= k) Q) := by
  unfold at'
  rw [k0_part10_eq_skeleton]; unfold k0_part10_skel
  simp only [Prog.lift, Prog.bind_op, Prog.bind_ret, Prog.pure_eq_ret]
  iintro #HE Hw0 Hws Hw1 HO Hk
  iapply (w_start 0 (up c 2) rfl (off1_3 c) rfl) $$ Hw0 Hws
  iintro Hw0
  iapply (w_wait 1 (up c 0) rfl rfl) $$ HE Hw1 HO
  iintro ⟨Hw1, Hv, HO⟩
  iapply load_own $$ Hw1
  iintro Hw1
  ihave Hw1 := (any_intro (M := wsP 1) (wc1 m c (up c 0))) $$ Hw1
  iapply Hk $$ Hw0 [Hw1 Hv] HO
  isplitl [Hw1]; · iexact Hw1
  iexact Hv

theorem part11 {Q : β → sProp 𝕄} {k : PUnit → Prog (TpuEff nD τ sig (Elt F) Λ₀ .tc) β} {v277 : BitVec 32} :
    env m K ⊢ iprop(ownA c (wfP 1) -∗ xQ m c 0 -∗ ownA c (sP 0 0) -∗ tg c 0 0 -∗ Ow c (.inr (0, 0) :: l)
      -∗ (wQ m c 1 (up c 0) -∗ xQ m c 0 -∗ sC c 0 0 -∗ Ow c l -∗ wpB c (k ⟨⟩) Q)
      -∗ wpB c (at' (k0_part11 (F := F)) c (scl m c) v277 (k0_pay13 (wc1 m c (up c 0))) >>= k) Q) := by
  unfold at'
  rw [k0_part11_eq_skeleton]; unfold k0_part11_skel
  simp only [Prog.lift, Prog.bind_op, Prog.bind_ret, Prog.pure_eq_ret]
  iintro #HE Hw Hx Hs ⟨Hr, Ht⟩ HO Hk
  iapply load_any $$ Hw
  iintro %Y Hw
  iapply (w_store 1 (up c 0) rfl rfl) $$ Hw
  iintro Hw
  iapply load_own $$ Hx
  iintro Hx
  iapply load_own $$ Hw
  iintro Hw
  iapply load_any $$ Hs
  iintro %Z Hs
  iapply (s_store 0 0 rfl rfl) $$ Hs
  iintro Hb
  iapply (send_step 0 0 (dev8_eq c) rfl rfl rfl rfl) $$ HE Hb Hr Ht HO
  iintro ⟨Hc, HO⟩
  iapply Hk $$ Hw Hx Hc HO

theorem part12 {Q : β → sProp 𝕄} {k : (Σ' (v363 : Vec F S256x4096 .fp8e4m3), FVec F S4096x512 .fp8e4m3) → Prog (TpuEff nD τ sig (Elt F) Λ₀ .tc) β}
    {v277 : BitVec 32} :
    env m K ⊢ iprop(wQ m c 1 (up c 0) -∗ xQ m c 1 -∗ xQ m c 2 -∗ ownA c (sP 0 1) -∗ tg c 0 1 -∗ Ow c (.inr (0, 1) :: l)
      -∗ (wQ m c 1 (up c 0) -∗ xQ m c 1 -∗ xQ m c 2 -∗ sC c 0 1 -∗ Ow c l -∗ wpB c (k ⟨xq m c 2, k0_pay17 (wq m c (up c 0))⟩) Q)
      -∗ wpB c (at' (k0_part12 (F := F)) c (scl m c) v277 >>= k) Q) := by
  unfold at'
  rw [k0_part12_eq_skeleton]; unfold k0_part12_skel
  simp only [Prog.lift, Prog.bind_op, Prog.bind_ret, Prog.pure_eq_ret]
  iintro #HE Hw Hx Hy Hs ⟨Hr, Ht⟩ HO Hk
  iapply load_own $$ Hx
  iintro Hx
  iapply load_own $$ Hw
  iintro Hw
  iapply load_any $$ Hs
  iintro %Z Hs
  iapply (s_store 0 1 rfl rfl) $$ Hs
  iintro Hb
  iapply (send_step 0 1 (dev9_eq c) rfl rfl rfl rfl) $$ HE Hb Hr Ht HO
  iintro ⟨Hc, HO⟩
  iapply load_own $$ Hy
  iintro Hy
  iapply load_own $$ Hw
  iintro Hw
  iapply Hk $$ Hw Hx Hy Hc HO

theorem part13 {Q : β → sProp 𝕄} {k : (Σ' (v396 : FVec F S256x512 .f32), FVec F S256x512 .f32) → Prog (TpuEff nD τ sig (Elt F) Λ₀ .tc) β}
    {v277 : BitVec 32} :
    env m K ⊢ iprop(wQ m c 1 (up c 0) -∗ xQ m c 3 -∗ ownA c (sP 0 2) -∗ tg c 0 2 -∗ Ow c (.inr (0, 2) :: l)
      -∗ (wQ m c 1 (up c 0) -∗ xQ m c 3 -∗ sC c 0 2 -∗ Ow c l -∗ wpB c (k ⟨k0_pay19 (scl m c) (xq m c 3) (wq m c (up c 0)), k0_pay20 (F := F)⟩) Q)
      -∗ wpB c (at' (k0_part13 (F := F)) c (scl m c) v277 (xq m c 2) (k0_pay17 (wq m c (up c 0))) >>= k) Q) := by
  unfold at'
  rw [k0_part13_eq_skeleton]; unfold k0_part13_skel
  simp only [Prog.lift, Prog.bind_op, Prog.bind_ret, Prog.pure_eq_ret]
  iintro #HE Hw Hx Hs ⟨Hr, Ht⟩ HO Hk
  iapply load_any $$ Hs
  iintro %Z Hs
  iapply (s_store 0 2 rfl rfl) $$ Hs
  iintro Hb
  iapply (send_step 0 2 (dev10_eq c) rfl rfl rfl rfl) $$ HE Hb Hr Ht HO
  iintro ⟨Hc, HO⟩
  iapply load_own $$ Hx
  iintro Hx
  iapply load_own $$ Hw
  iintro Hw
  iapply Hk $$ Hw Hx Hc HO

theorem part14 {Q : β → sProp 𝕄} {k : (Σ' (v429 : BitVec 32), BitVec 32) → Prog (TpuEff nD τ sig (Elt F) Λ₀ .tc) β} {v2 v277 : BitVec 32} :
    env m K ⊢ iprop(ownA c (sP 0 3) -∗ tg c 0 3 -∗ Ow c (.inr (0, 3) :: l) -∗ (∀ v, sC c 0 3 -∗ Ow c l -∗ wpB c (k v) Q)
      -∗ wpB c (at' (k0_part14 (F := F)) c v2 v277 (k0_pay19 (scl m c) (xq m c 3) (wq m c (up c 0))) (k0_pay20 (F := F)) >>= k) Q) := by
  unfold at'
  rw [k0_part14_eq_skeleton]; unfold k0_part14_skel
  simp only [Prog.lift, Prog.bind_op, Prog.bind_ret, Prog.pure_eq_ret]
  iintro #HE Hs ⟨Hr, Ht⟩ HO Hk
  iapply load_any $$ Hs
  iintro %Z Hs
  iapply (s_store 0 3 rfl rfl) $$ Hs
  iintro Hb
  iapply (send_step 0 3 (dev11_eq c) rfl rfl rfl rfl) $$ HE Hb Hr Ht HO
  iintro ⟨Hc, HO⟩
  iapply Hk $$ Hc HO

theorem part15 {Q : β → sProp 𝕄} {k : Vec F S256x4096 .fp8e4m3 → Prog (TpuEff nD τ sig (Elt F) Λ₀ .tc) β} {v429 v430 : BitVec 32} :
    env m K ⊢ iprop(wFree c 1 -∗ wSrc m c c -∗ wFly m c 0 (up c 2) -∗ Ow c l -∗ ownA c (wfP 0) -∗ xQ m c 0
      -∗ (wFly m c 1 c -∗ wFree c 0 -∗ Ow c l -∗ wQ m c 0 (up c 2) -∗ xQ m c 0 -∗ wpB c (k (xq m c 0)) Q)
      -∗ wpB c (at' (k0_part15 (F := F)) c v429 v430 >>= k) Q) := by
  unfold at'
  rw [k0_part15_eq_skeleton]; unfold k0_part15_skel
  simp only [Prog.lift, Prog.bind_op, Prog.bind_ret, Prog.pure_eq_ret]
  iintro #HE Hw1 Hws Hw0 HO Hf Hx Hk
  iapply (w_start 1 c rfl (off1_own c) rfl) $$ Hw1 Hws
  iintro Hw1
  iapply (w_wait 0 (up c 2) rfl rfl) $$ HE Hw0 HO
  iintro ⟨Hw0, Hv, HO⟩
  iapply load_own $$ Hw0
  iintro Hw0
  iapply load_any $$ Hf
  iintro %Y Hf
  iapply (w_store 0 (up c 2) rfl rfl) $$ Hf
  iintro Hf
  iapply load_own $$ Hx
  iintro Hx
  ihave Hw0 := (any_intro (M := wsP 0) (wc1 m c (up c 2))) $$ Hw0
  iapply Hk $$ Hw1 [Hw0 Hv] HO Hf Hx
  isplitl [Hw0]; · iexact Hw0
  iexact Hv

theorem part16 {Q : β → sProp 𝕄} {k : (Σ' (v490 : FVec F S256x512 .f32), FVec F S256x512 .f32) → Prog (TpuEff nD τ sig (Elt F) Λ₀ .tc) β}
    {v429 : BitVec 32} :
    env m K ⊢ iprop(wQ m c 0 (up c 2) -∗ xQ m c 1 -∗ ownA c (sP 2 0) -∗ tg c 2 0 -∗ Ow c (.inr (2, 0) :: l)
      -∗ (wQ m c 0 (up c 2) -∗ xQ m c 1 -∗ sC c 2 0 -∗ Ow c l -∗ wpB c (k ⟨k0_pay24 (xq m c 1) (wq m c (up c 2)), k0_pay25 (scl m c)⟩) Q)
      -∗ wpB c (at' (k0_part16 (F := F)) c (scl m c) v429 (xq m c 0) >>= k) Q) := by
  unfold at'
  rw [k0_part16_eq_skeleton]; unfold k0_part16_skel
  simp only [Prog.lift, Prog.bind_op, Prog.bind_ret, Prog.pure_eq_ret]
  iintro #HE Hw Hx Hs ⟨Hr, Ht⟩ HO Hk
  iapply load_own $$ Hw
  iintro Hw
  iapply load_any $$ Hs
  iintro %Z Hs
  iapply (s_store 2 0 rfl rfl) $$ Hs
  iintro Hb
  iapply (send_step 2 0 (dev12_eq c) rfl rfl rfl rfl) $$ HE Hb Hr Ht HO
  iintro ⟨Hc, HO⟩
  iapply load_own $$ Hx
  iintro Hx
  iapply load_own $$ Hw
  iintro Hw
  iapply Hk $$ Hw Hx Hc HO

theorem part17 {Q : β → sProp 𝕄} {k : (Σ' (v520 : FVec F S256x512 .f32) (v523 : FVec F S256x512 .f32), F .f32) → Prog (TpuEff nD τ sig (Elt F) Λ₀ .tc) β}
    {v429 : BitVec 32} :
    env m K ⊢ iprop(wQ m c 0 (up c 2) -∗ xQ m c 2 -∗ ownA c (sP 2 1) -∗ tg c 2 1 -∗ Ow c (.inr (2, 1) :: l)
      -∗ (wQ m c 0 (up c 2) -∗ xQ m c 2 -∗ sC c 2 1 -∗ Ow c l
        -∗ wpB c (k ⟨k0_pay27 (scl m c) (xq m c 2) (wq m c (up c 2)), k0_pay28 (scl m c) (xq m c 2) (wq m c (up c 2)), Scalar.ofBits .f32 0x3F800000#32⟩) Q)
      -∗ wpB c (at' (k0_part17 (F := F)) c (scl m c) v429 (k0_pay24 (xq m c 1) (wq m c (up c 2))) (k0_pay25 (scl m c)) >>= k) Q) := by
  unfold at'
  rw [k0_part17_eq_skeleton]; unfold k0_part17_skel
  simp only [Prog.lift, Prog.bind_op, Prog.bind_ret, Prog.pure_eq_ret]
  iintro #HE Hw Hx Hs ⟨Hr, Ht⟩ HO Hk
  iapply load_any $$ Hs
  iintro %Z Hs
  iapply (s_store 2 1 rfl rfl) $$ Hs
  iintro Hb
  iapply (send_step 2 1 (dev13_eq c) rfl rfl rfl rfl) $$ HE Hb Hr Ht HO
  iintro ⟨Hc, HO⟩
  iapply load_own $$ Hx
  iintro Hx
  iapply load_own $$ Hw
  iintro Hw
  iapply Hk $$ Hw Hx Hc HO

theorem part18 {Q : β → sProp 𝕄} {k : FVec F S256x512 .f32 → Prog (TpuEff nD τ sig (Elt F) Λ₀ .tc) β} {v429 : BitVec 32} :
    env m K ⊢ iprop(wQ m c 0 (up c 2) -∗ xQ m c 3 -∗ ownA c (sP 2 2) -∗ tg c 2 2 -∗ Ow c (.inr (2, 2) :: l)
      -∗ (wQ m c 0 (up c 2) -∗ xQ m c 3 -∗ sC c 2 2 -∗ Ow c l -∗ wpB c (k (k0_pay30 (scl m c) (xq m c 3) (wq m c (up c 2)))) Q)
      -∗ wpB c (at' (k0_part18 (F := F)) c (scl m c) v429 (k0_pay27 (scl m c) (xq m c 2) (wq m c (up c 2))) (k0_pay28 (scl m c) (xq m c 2) (wq m c (up c 2)))
        (Scalar.ofBits .f32 0x3F800000#32) >>= k) Q) := by
  unfold at'
  rw [k0_part18_eq_skeleton]; unfold k0_part18_skel
  simp only [Prog.lift, Prog.bind_op, Prog.bind_ret, Prog.pure_eq_ret]
  iintro #HE Hw Hx Hs ⟨Hr, Ht⟩ HO Hk
  iapply load_any $$ Hs
  iintro %Z Hs
  iapply (s_store 2 2 rfl rfl) $$ Hs
  iintro Hb
  iapply (send_step 2 2 (dev14_eq c) rfl rfl rfl rfl) $$ HE Hb Hr Ht HO
  iintro ⟨Hc, HO⟩
  iapply load_own $$ Hx
  iintro Hx
  iapply load_own $$ Hw
  iintro Hw
  iapply Hk $$ Hw Hx Hc HO

theorem part19 {Q : β → sProp 𝕄} {k : PUnit → Prog (TpuEff nD τ sig (Elt F) Λ₀ .tc) β} {v2 v429 : BitVec 32} :
    env m K ⊢ iprop(ownA c (sP 2 3) -∗ tg c 2 3 -∗ Ow c (.inr (2, 3) :: l) -∗ wFly m c 1 c -∗ ownA c (wfP 1)
      -∗ (sC c 2 3 -∗ Ow c l -∗ wFree c 1 -∗ wQ m c 1 c -∗ wpB c (k ⟨⟩) Q)
      -∗ wpB c (at' (k0_part19 (F := F)) c v2 v429 (k0_pay30 (scl m c) (xq m c 3) (wq m c (up c 2))) >>= k) Q) := by
  unfold at'
  rw [k0_part19_eq_skeleton]; unfold k0_part19_skel
  simp only [Prog.lift, Prog.bind_op, Prog.bind_ret, Prog.pure_eq_ret]
  iintro #HE Hs ⟨Hr, Ht⟩ HO Hw Hf Hk
  iapply load_any $$ Hs
  iintro %Z Hs
  iapply (s_store 2 3 rfl rfl) $$ Hs
  iintro Hb
  iapply (send_step 2 3 (dev15_eq c) rfl rfl rfl rfl) $$ HE Hb Hr Ht HO
  iintro ⟨Hc, HO⟩
  iapply (w_wait 1 c rfl rfl) $$ HE Hw HO
  iintro ⟨Hw, Hv, HO⟩
  iapply load_own $$ Hw
  iintro Hw
  iapply load_any $$ Hf
  iintro %Y Hf
  iapply (w_store 1 c rfl rfl) $$ Hf
  iintro Hf
  ihave Hw := (any_intro (M := wsP 1) (wc1 m c c)) $$ Hw
  iapply Hk $$ Hc HO [Hw Hv] Hf
  isplitl [Hw]; · iexact Hw
  iexact Hv

end Parts

end Cert.KProof
-- ==== Proof.Body3.lean ====
/-
# The body's last part: the own block, and the steps for a chunk received
-/
module

public import proofs.«01_k».proof.Proof.Body2

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {m : (ℓ : Loc nD τ sig) → Buf (Elt F) ℓ} {c : Dev nD} {K : Dev nD × Key → ℕ} {l : List Debt} {β : Type}

/-- A chunk of an output stage filled. -/
abbrev oQ (c : Dev nD) (s : Fin 2) (ch : Fin 4) (Z : S256x512.Idx → F .f32) : sProp 𝕄 := own c (osP s ch) fullShare Z
/-- What the waits for a chunk sent and for a chunk received need, and what they leave. -/
abbrev sW (c : Dev nD) (j : Fin 3) (ch : Fin 4) : sProp 𝕄 := iprop(sC c j ch ∗ atPos ER (cell c (some (false, j, ch))) 0 ∅ 0)
abbrev rW (c : Dev nD) (j : Fin 3) (ch : Fin 4) : sProp 𝕄 :=
  iprop(cred (tallyAt (cell c (some (true, j, ch))) () N) ∗ atPos ER (cell c (some (true, j, ch))) 0 ∅ 0)
abbrev sD (m : (ℓ : Loc nD τ sig) → Buf (Elt F) ℓ) (c : Dev nD) (j : Fin 3) (ch : Fin 4) : sProp 𝕄 :=
  iprop(sB m c j ch ∗ semVal (cell c (some (false, j, ch))) 0)
abbrev rD (m : (ℓ : Loc nD τ sig) → Buf (Elt F) ℓ) (c : Dev nD) (j : Fin 3) (ch : Fin 4) : sProp 𝕄 :=
  iprop(own c (rP j ch) fullShare (sblk m (dn c j) j ch) ∗ semVal (cell c (some (true, j, ch))) 0)

theorem sent {Q : β → sProp 𝕄} {cont : PUnit → Prog (TpuEff nD τ sig (Elt F) Λ₀ .tc) β} (j : Fin 3) (ch : Fin 4)
    {src dst : Memref sig .tc .vmem S256x512 .bf16} {sm : DmaSem sig}
    (hsm : sm = sSem j ch) (hd : dst = sQ j ch) {hsrc : src.view.WordExact} {hdst : dst.view.WordExact} :
    env m K ⊢ iprop(sW c j ch -∗ Ow c [] -∗ (sD m c j ch -∗ Ow c [] -∗ wpB c (cont ⟨⟩) Q)
      -∗ wpB c (.op (.waitDma2 sm src dst hsrc hdst) cont) Q) := by
  iintro #HE ⟨Hc, Hp⟩ HO Hk
  iapply (sent_wait j ch hsm hd) $$ HE Hc Hp HO
  iintro ⟨Hb, Hv, HO⟩
  iapply Hk $$ [Hb Hv] HO
  isplitl [Hb]; · iexact Hb
  iexact Hv

theorem got {Q : β → sProp 𝕄} {cont : PUnit → Prog (TpuEff nD τ sig (Elt F) Λ₀ .tc) β} (j : Fin 3) (ch : Fin 4)
    {src dst : Memref sig .tc .vmem S256x512 .bf16} {sm : DmaSem sig}
    (hsm : sm = rSem j ch) (hd : dst = rQ j ch) {hsrc : src.view.WordExact} {hdst : dst.view.WordExact} :
    env m K ⊢ iprop(rW c j ch -∗ Ow c [] -∗ (rD m c j ch -∗ Ow c [] -∗ wpB c (cont ⟨⟩) Q)
      -∗ wpB c (.op (.waitDma2 sm src dst hsrc hdst) cont) Q) := by
  iintro #HE ⟨Hc, Hp⟩ HO Hk
  iapply (recv_wait j ch hsm hd) $$ HE Hc Hp HO
  iintro ⟨Hb, Hv, HO⟩
  iapply Hk $$ [Hb Hv] HO
  isplitl [Hb]; · iexact Hb
  iexact Hv

theorem got_load {Q : β → sProp 𝕄} (j : Fin 3) (ch : Fin 4) {off} {inb} (hoff : off = ![j.val, 256 * ch.val, 0])
    {hl : rcv.view.LoadsAt (Rect.unit (s := S3x1024x512) off S1x256x512.size inb).toLoadRect}
    {k : ((Rect.unit (s := S3x1024x512) off S1x256x512.size inb).shape.Idx → Elt F .bf16) → Prog (TpuEff nD τ sig (Elt F) Λ₀ .tc) β} :
    rD m c j ch ⊢ iprop((rD m c j ch -∗ wpB c (k (sblk m (dn c j) j ch)) Q)
      -∗ wpB c (.op (.load rcv (Rect.unit (s := S3x1024x512) off S1x256x512.size inb).toLoadRect hl) k) Q) := by
  subst hoff
  iintro ⟨Hr, Hv⟩ Hk
  iapply load_own $$ Hr
  iintro Hr
  iapply Hk
  isplitl [Hr]; · iexact Hr
  iexact Hv

theorem part20 {Q : β → sProp 𝕄} {k : FVec F S256x512 .f32 → Prog (TpuEff nD τ sig (Elt F) Λ₀ .tc) β} :
    wQ m c 1 c ⊢ iprop(xQ m c 0 -∗ xQ m c 1 -∗ ownA c (osP 0 0)
      -∗ (wQ m c 1 c -∗ xQ m c 0 -∗ xQ m c 1 -∗ oQ c 0 0 (ownc m c 0) -∗ wpB c (k (k0_pay34 (scl m c) (xq m c 1) (wq m c c))) Q)
      -∗ wpB c (at' (k0_part20 (F := F)) (scl m c) >>= k) Q) := by
  unfold at'
  rw [k0_part20_eq_skeleton]; unfold k0_part20_skel
  simp only [Prog.lift, Prog.bind_op, Prog.bind_ret, Prog.pure_eq_ret]
  iintro Hw Hx Hy Ho Hk
  iapply load_own $$ Hx
  iintro Hx
  iapply load_own $$ Hw
  iintro Hw
  iapply load_any $$ Ho
  iintro %Z Ho
  iapply (o_store 0 0 (ownc m c 0) rfl rfl) $$ Ho
  iintro Ho
  iapply load_own $$ Hy
  iintro Hy
  iapply load_own $$ Hw
  iintro Hw
  iapply Hk $$ Hw Hx Hy Ho

theorem part21 {Q : β → sProp 𝕄} {k : (Σ' (v646 : FVec F S256x512 .f32), FVec F S256x512 .f32) → Prog (TpuEff nD τ sig (Elt F) Λ₀ .tc) β} :
    wQ m c 1 c ⊢ iprop(xQ m c 2 -∗ xQ m c 3 -∗ ownA c (osP 0 1) -∗ ownA c (osP 0 2)
      -∗ (wQ m c 1 c -∗ xQ m c 2 -∗ xQ m c 3 -∗ oQ c 0 1 (ownc m c 1) -∗ oQ c 0 2 (ownc m c 2)
        -∗ wpB c (k ⟨k0_pay37 (scl m c) (xq m c 3) (wq m c c), k0_pay38 (scl m c) (xq m c 3) (wq m c c)⟩) Q)
      -∗ wpB c (at' (k0_part21 (F := F)) (scl m c) (k0_pay34 (scl m c) (xq m c 1) (wq m c c)) >>= k) Q) := by
  unfold at'
  rw [k0_part21_eq_skeleton]; unfold k0_part21_skel
  simp only [Prog.lift, Prog.bind_op, Prog.bind_ret, Prog.pure_eq_ret]
  iintro Hw Hx Hy Ho Hp Hk
  iapply load_any $$ Ho
  iintro %Z Ho
  iapply (o_store 0 1 (ownc m c 1) rfl rfl) $$ Ho
  iintro Ho
  iapply load_own $$ Hx
  iintro Hx
  iapply load_own $$ Hw
  iintro Hw
  iapply load_any $$ Hp
  iintro %Y Hp
  iapply (o_store 0 2 (ownc m c 2) rfl rfl) $$ Hp
  iintro Hp
  iapply load_own $$ Hy
  iintro Hy
  iapply load_own $$ Hw
  iintro Hw
  iapply Hk $$ Hw Hx Hy Ho Hp

theorem part22 {Q : β → sProp 𝕄} {k : PUnit → Prog (TpuEff nD τ sig (Elt F) Λ₀ .tc) β} {v2 : BitVec 32} :
    oQ c 0 0 (ownc m c 0) ⊢ iprop(oQ c 0 1 (ownc m c 1) -∗ oQ c 0 2 (ownc m c 2) -∗ ownA c (osP 0 3) -∗ ownA c (oHP c) -∗ oSv c 0
      -∗ (oFly c 0 c (ownc m c) -∗ wpB c (k ⟨⟩) Q)
      -∗ wpB c (at' (k0_part22 (F := F)) c v2 (k0_pay37 (scl m c) (xq m c 3) (wq m c c)) (k0_pay38 (scl m c) (xq m c 3) (wq m c c)) >>= k) Q) := by
  unfold at'
  rw [k0_part22_eq_skeleton]; unfold k0_part22_skel
  simp only [Prog.lift, Prog.bind_op, Prog.bind_ret, Prog.pure_eq_ret]
  iintro H0 H1 H2 H3 Hd Hv Hk
  iapply load_any $$ H3
  iintro %Z H3
  iapply (o_store 0 3 (ownc m c 3) rfl rfl) $$ H3
  iintro H3
  iapply (out_start 0 c (ownc m c) rfl rfl (off3_eq c)) $$ [H0 H1 H2 H3] Hd Hv
  · isplitl [H0]; · iexact H0
    isplitl [H1]; · iexact H1
    isplitl [H2]; · iexact H2
    iexact H3
  iexact Hk

theorem part23 {Q : β → sProp 𝕄} {k : PUnit → Prog (TpuEff nD τ sig (Elt F) Λ₀ .tc) β} {v277 : BitVec 32} :
    env m K ⊢ iprop(sW c 0 0 -∗ rW c 0 0 -∗ sW c 0 1 -∗ Ow c [] -∗ ownA c (osP 1 0)
      -∗ (sD m c 0 0 -∗ rD m c 0 0 -∗ sD m c 0 1 -∗ Ow c [] -∗ oQ c 1 0 (recc m c 0 0) -∗ wpB c (k ⟨⟩) Q)
      -∗ wpB c (at' (k0_part23 (F := F)) v277 >>= k) Q) := by
  unfold at'
  rw [k0_part23_eq_skeleton]; unfold k0_part23_skel
  simp only [Prog.lift, Prog.bind_op, Prog.bind_ret, Prog.pure_eq_ret]
  iintro #HE Hs Hr Ht HO Ho Hk
  iapply (sent 0 0 rfl rfl) $$ HE Hs HO
  iintro Hs HO
  iapply (got 0 0 rfl rfl) $$ HE Hr HO
  iintro Hr HO
  iapply (got_load 0 0 rfl) $$ Hr
  iintro Hr
  iapply load_any $$ Ho
  iintro %Z Ho
  iapply (o_store 1 0 (recc m c 0 0) rfl rfl) $$ Ho
  iintro Ho
  iapply (sent 0 1 rfl rfl) $$ HE Ht HO
  iintro Ht HO
  iapply Hk $$ Hs Hr Ht HO Ho

end Parts

end Cert.KProof
-- ==== Proof.Body4.lean ====
/-
# The body's last part: the chunks received and their copies out
-/
module

public import proofs.«01_k».proof.Proof.Body3

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {m : (ℓ : Loc nD τ sig) → Buf (Elt F) ℓ} {c : Dev nD} {K : Dev nD × Key → ℕ} {l : List Debt} {β : Type}

/-- A block of the result written. -/
abbrev dQ (c : Dev nD) (b : Fin 4) (Z : Fin 4 → S256x512.Idx → F .f32) : sProp 𝕄 := own c (oHP b) fullShare (cutO.glue Z)
/-- An output stage and its semaphore free. -/
abbrev oFree (c : Dev nD) (s : Fin 2) : sProp 𝕄 := iprop((four fun ch => ownA (F := F) c (osP s ch)) ∗ oSv c s)

theorem part24 {Q : β → sProp 𝕄} {k : PUnit → Prog (TpuEff nD τ sig (Elt F) Λ₀ .tc) β} {v277 : BitVec 32} :
    env m K ⊢ iprop(rW c 0 1 -∗ sW c 0 2 -∗ Ow c [] -∗ ownA c (osP 1 1)
      -∗ (rD m c 0 1 -∗ sD m c 0 2 -∗ Ow c [] -∗ oQ c 1 1 (recc m c 0 1) -∗ wpB c (k ⟨⟩) Q)
      -∗ wpB c (at' (k0_part24 (F := F)) v277 >>= k) Q) := by
  unfold at'
  rw [k0_part24_eq_skeleton]; unfold k0_part24_skel
  simp only [Prog.lift, Prog.bind_op, Prog.bind_ret, Prog.pure_eq_ret]
  iintro #HE Hr Ht HO Ho Hk
  iapply (got 0 1 rfl rfl) $$ HE Hr HO
  iintro Hr HO
  iapply (got_load 0 1 rfl) $$ Hr
  iintro Hr
  iapply load_any $$ Ho
  iintro %Z Ho
  iapply (o_store 1 1 (recc m c 0 1) rfl rfl) $$ Ho
  iintro Ho
  iapply (sent 0 2 rfl rfl) $$ HE Ht HO
  iintro Ht HO
  iapply Hk $$ Hr Ht HO Ho

theorem part25 {Q : β → sProp 𝕄} {k : BitVec 32 → Prog (TpuEff nD τ sig (Elt F) Λ₀ .tc) β} {v277 : BitVec 32} :
    env m K ⊢ iprop(rW c 0 2 -∗ sW c 0 3 -∗ Ow c [] -∗ ownA c (osP 1 2)
      -∗ (∀ v, rD m c 0 2 -∗ sD m c 0 3 -∗ Ow c [] -∗ oQ c 1 2 (recc m c 0 2) -∗ wpB c (k v) Q)
      -∗ wpB c (at' (k0_part25 (F := F)) v277 >>= k) Q) := by
  unfold at'
  rw [k0_part25_eq_skeleton]; unfold k0_part25_skel
  simp only [Prog.lift, Prog.bind_op, Prog.bind_ret, Prog.pure_eq_ret]
  iintro #HE Hr Ht HO Ho Hk
  iapply (got 0 2 rfl rfl) $$ HE Hr HO
  iintro Hr HO
  iapply (got_load 0 2 rfl) $$ Hr
  iintro Hr
  iapply load_any $$ Ho
  iintro %Z Ho
  iapply (o_store 1 2 (recc m c 0 2) rfl rfl) $$ Ho
  iintro Ho
  iapply (sent 0 3 rfl rfl) $$ HE Ht HO
  iintro Ht HO
  iapply Hk $$ Hr Ht HO Ho

theorem part26 {Q : β → sProp 𝕄} {k : (Σ' (v780 : BitVec 32), BitVec 32) → Prog (TpuEff nD τ sig (Elt F) Λ₀ .tc) β} {v2 v749 : BitVec 32} :
    env m K ⊢ iprop(rW c 0 3 -∗ Ow c [] -∗ oQ c 1 0 (recc m c 0 0) -∗ oQ c 1 1 (recc m c 0 1) -∗ oQ c 1 2 (recc m c 0 2) -∗ ownA c (osP 1 3)
      -∗ ownA c (oHP (dn c 0)) -∗ oSv c 1
      -∗ (∀ v, rD m c 0 3 -∗ Ow c [] -∗ oFly c 1 (dn c 0) (recc m c 0) -∗ wpB c (k v) Q)
      -∗ wpB c (at' (k0_part26 (F := F)) c v2 v749 >>= k) Q) := by
  unfold at'
  rw [k0_part26_eq_skeleton]; unfold k0_part26_skel
  simp only [Prog.lift, Prog.bind_op, Prog.bind_ret, Prog.pure_eq_ret]
  iintro #HE Hr HO H0 H1 H2 H3 Hd Hv Hk
  iapply (got 0 3 rfl rfl) $$ HE Hr HO
  iintro Hr HO
  iapply (got_load 0 3 rfl) $$ Hr
  iintro Hr
  iapply load_any $$ H3
  iintro %Z H3
  iapply (o_store 1 3 (recc m c 0 3) rfl rfl) $$ H3
  iintro H3
  iapply (out_start 1 (dn c 0) (recc m c 0) rfl rfl (off4_3 c)) $$ [H0 H1 H2 H3] Hd Hv
  · isplitl [H0]; · iexact H0
    isplitl [H1]; · iexact H1
    isplitl [H2]; · iexact H2
    iexact H3
  iintro Hf
  iapply Hk $$ Hr HO Hf

theorem part27 {Q : β → sProp 𝕄} {k : FVec F S256x512 .f32 → Prog (TpuEff nD τ sig (Elt F) Λ₀ .tc) β} {v429 v780 v1 : BitVec 32} :
    env m K ⊢ iprop(oFly c 0 c (ownc m c) -∗ sW c 2 0 -∗ rW c 2 0 -∗ Ow c []
      -∗ (dQ c c (ownc m c) -∗ oFree c 0 -∗ sD m c 2 0 -∗ rD m c 2 0 -∗ Ow c [] -∗ wpB c (k (k0_pay44 (sblk m (dn c 2) 2 0))) Q)
      -∗ wpB c (at' (k0_part27 (F := F)) c v429 v780 v1 >>= k) Q) := by
  unfold at'
  rw [k0_part27_eq_skeleton]; unfold k0_part27_skel
  simp only [Prog.lift, Prog.bind_op, Prog.bind_ret, Prog.pure_eq_ret]
  iintro #HE Hf Hs Hr HO Hk
  iapply (out_wait 0 c (ownc m c) rfl (off3_eq c)) $$ HE Hf HO
  iintro ⟨Hd, Ho, Hv, HO⟩
  iapply (sent 2 0 rfl rfl) $$ HE Hs HO
  iintro Hs HO
  iapply (got 2 0 rfl rfl) $$ HE Hr HO
  iintro Hr HO
  iapply (got_load 2 0 rfl) $$ Hr
  iintro Hr
  iapply Hk $$ Hd [Ho Hv] Hs Hr HO
  isplitl [Ho]; · iexact Ho
  iexact Hv

theorem part28 {Q : β → sProp 𝕄} {k : FVec F S256x512 .f32 → Prog (TpuEff nD τ sig (Elt F) Λ₀ .tc) β} {v429 : BitVec 32} :
    env m K ⊢ iprop(ownA c (osP 0 0) -∗ sW c 2 1 -∗ rW c 2 1 -∗ Ow c []
      -∗ (oQ c 0 0 (recc m c 2 0) -∗ sD m c 2 1 -∗ rD m c 2 1 -∗ Ow c [] -∗ wpB c (k (k0_pay46 (sblk m (dn c 2) 2 1))) Q)
      -∗ wpB c (at' (k0_part28 (F := F)) v429 (k0_pay44 (sblk m (dn c 2) 2 0)) >>= k) Q) := by
  unfold at'
  rw [k0_part28_eq_skeleton]; unfold k0_part28_skel
  simp only [Prog.lift, Prog.bind_op, Prog.bind_ret, Prog.pure_eq_ret]
  iintro #HE Ho Hs Hr HO Hk
  iapply load_any $$ Ho
  iintro %Z Ho
  iapply (o_store 0 0 (recc m c 2 0) rfl rfl) $$ Ho
  iintro Ho
  iapply (sent 2 1 rfl rfl) $$ HE Hs HO
  iintro Hs HO
  iapply (got 2 1 rfl rfl) $$ HE Hr HO
  iintro Hr HO
  iapply (got_load 2 1 rfl) $$ Hr
  iintro Hr
  iapply Hk $$ Ho Hs Hr HO

theorem part29 {Q : β → sProp 𝕄} {k : PUnit → Prog (TpuEff nD τ sig (Elt F) Λ₀ .tc) β} {v429 : BitVec 32} :
    env m K ⊢ iprop(ownA c (osP 0 1) -∗ ownA c (osP 0 2) -∗ sW c 2 2 -∗ rW c 2 2 -∗ Ow c []
      -∗ (oQ c 0 1 (recc m c 2 1) -∗ oQ c 0 2 (recc m c 2 2) -∗ sD m c 2 2 -∗ rD m c 2 2 -∗ Ow c [] -∗ wpB c (k ⟨⟩) Q)
      -∗ wpB c (at' (k0_part29 (F := F)) v429 (k0_pay46 (sblk m (dn c 2) 2 1)) >>= k) Q) := by
  unfold at'
  rw [k0_part29_eq_skeleton]; unfold k0_part29_skel
  simp only [Prog.lift, Prog.bind_op, Prog.bind_ret, Prog.pure_eq_ret]
  iintro #HE Ho Hp Hs Hr HO Hk
  iapply load_any $$ Ho
  iintro %Z Ho
  iapply (o_store 0 1 (recc m c 2 1) rfl rfl) $$ Ho
  iintro Ho
  iapply (sent 2 2 rfl rfl) $$ HE Hs HO
  iintro Hs HO
  iapply (got 2 2 rfl rfl) $$ HE Hr HO
  iintro Hr HO
  iapply (got_load 2 2 rfl) $$ Hr
  iintro Hr
  iapply load_any $$ Hp
  iintro %Y Hp
  iapply (o_store 0 2 (recc m c 2 2) rfl rfl) $$ Hp
  iintro Hp
  iapply Hk $$ Ho Hp Hs Hr HO

theorem part30 {Q : β → sProp 𝕄} {k : PUnit → Prog (TpuEff nD τ sig (Elt F) Λ₀ .tc) β} {v429 : BitVec 32} :
    env m K ⊢ iprop(sW c 2 3 -∗ rW c 2 3 -∗ Ow c [] -∗ ownA c (osP 0 3)
      -∗ (sD m c 2 3 -∗ rD m c 2 3 -∗ Ow c [] -∗ oQ c 0 3 (recc m c 2 3) -∗ wpB c (k ⟨⟩) Q)
      -∗ wpB c (at' (k0_part30 (F := F)) v429 >>= k) Q) := by
  unfold at'
  rw [k0_part30_eq_skeleton]; unfold k0_part30_skel
  simp only [Prog.lift, Prog.bind_op, Prog.bind_ret, Prog.pure_eq_ret]
  iintro #HE Hs Hr HO Ho Hk
  iapply (sent 2 3 rfl rfl) $$ HE Hs HO
  iintro Hs HO
  iapply (got 2 3 rfl rfl) $$ HE Hr HO
  iintro Hr HO
  iapply (got_load 2 3 rfl) $$ Hr
  iintro Hr
  iapply load_any $$ Ho
  iintro %Z Ho
  iapply (o_store 0 3 (recc m c 2 3) rfl rfl) $$ Ho
  iintro Ho
  iapply Hk $$ Hs Hr HO Ho

theorem part31 {Q : β → sProp 𝕄} {k : PUnit → Prog (TpuEff nD τ sig (Elt F) Λ₀ .tc) β} {v2 : BitVec 32} :
    env m K ⊢ iprop((four fun ch => oQ c 0 ch (recc m c 2 ch)) -∗ ownA c (oHP (dn c 2)) -∗ oSv c 0 -∗ oFly c 1 (dn c 0) (recc m c 0) -∗ sW c 1 0 -∗ Ow c []
      -∗ (oFly c 0 (dn c 2) (recc m c 2) -∗ dQ c (dn c 0) (recc m c 0) -∗ oFree c 1 -∗ sD m c 1 0 -∗ Ow c [] -∗ wpB c (k ⟨⟩) Q)
      -∗ wpB c (at' (k0_part31 (F := F)) c v2 >>= k) Q) := by
  unfold at'
  rw [k0_part31_eq_skeleton]; unfold k0_part31_skel
  simp only [Prog.lift, Prog.bind_op, Prog.bind_ret, Prog.pure_eq_ret]
  iintro #HE Ho Hd Hv Hf Hs HO Hk
  iapply (out_start 0 (dn c 2) (recc m c 2) rfl rfl (off4_1 c)) $$ Ho Hd Hv
  iintro Hg
  iapply (out_wait 1 (dn c 0) (recc m c 0) rfl (off4_3 c)) $$ HE Hf HO
  iintro ⟨Hd, Ho, Hv, HO⟩
  iapply (sent 1 0 rfl rfl) $$ HE Hs HO
  iintro Hs HO
  iapply Hk $$ Hg Hd [Ho Hv] Hs HO
  isplitl [Ho]; · iexact Ho
  iexact Hv

theorem part32 {Q : β → sProp 𝕄} {k : BitVec 32 → Prog (TpuEff nD τ sig (Elt F) Λ₀ .tc) β} {v98 : BitVec 32} :
    env m K ⊢ iprop(rW c 1 0 -∗ sW c 1 1 -∗ Ow c [] -∗ ownA c (osP 1 0)
      -∗ (∀ v, rD m c 1 0 -∗ sD m c 1 1 -∗ Ow c [] -∗ oQ c 1 0 (recc m c 1 0) -∗ wpB c (k v) Q)
      -∗ wpB c (at' (k0_part32 (F := F)) v98 >>= k) Q) := by
  unfold at'
  rw [k0_part32_eq_skeleton]; unfold k0_part32_skel
  simp only [Prog.lift, Prog.bind_op, Prog.bind_ret, Prog.pure_eq_ret]
  iintro #HE Hr Ht HO Ho Hk
  iapply (got 1 0 rfl rfl) $$ HE Hr HO
  iintro Hr HO
  iapply (got_load 1 0 rfl) $$ Hr
  iintro Hr
  iapply load_any $$ Ho
  iintro %Z Ho
  iapply (o_store 1 0 (recc m c 1 0) rfl rfl) $$ Ho
  iintro Ho
  iapply (sent 1 1 rfl rfl) $$ HE Ht HO
  iintro Ht HO
  iapply Hk $$ Hr Ht HO Ho

theorem part33 {Q : β → sProp 𝕄} {k : PUnit → Prog (TpuEff nD τ sig (Elt F) Λ₀ .tc) β} {v98 v925 : BitVec 32} :
    env m K ⊢ iprop(rW c 1 1 -∗ sW c 1 2 -∗ Ow c [] -∗ ownA c (osP 1 1)
      -∗ (rD m c 1 1 -∗ sD m c 1 2 -∗ Ow c [] -∗ oQ c 1 1 (recc m c 1 1) -∗ wpB c (k ⟨⟩) Q)
      -∗ wpB c (at' (k0_part33 (F := F)) v98 v925 >>= k) Q) := by
  unfold at'
  rw [k0_part33_eq_skeleton]; unfold k0_part33_skel
  simp only [Prog.lift, Prog.bind_op, Prog.bind_ret, Prog.pure_eq_ret]
  iintro #HE Hr Ht HO Ho Hk
  iapply (got 1 1 rfl rfl) $$ HE Hr HO
  iintro Hr HO
  iapply (got_load 1 1 rfl) $$ Hr
  iintro Hr
  iapply load_any $$ Ho
  iintro %Z Ho
  iapply (o_store 1 1 (recc m c 1 1) rfl rfl) $$ Ho
  iintro Ho
  iapply (sent 1 2 rfl rfl) $$ HE Ht HO
  iintro Ht HO
  iapply Hk $$ Hr Ht HO Ho

theorem part34 {Q : β → sProp 𝕄} {k : PUnit → Prog (TpuEff nD τ sig (Elt F) Λ₀ .tc) β} {v98 : BitVec 32} :
    env m K ⊢ iprop(rW c 1 2 -∗ sW c 1 3 -∗ Ow c [] -∗ ownA c (osP 1 2)
      -∗ (rD m c 1 2 -∗ sD m c 1 3 -∗ Ow c [] -∗ oQ c 1 2 (recc m c 1 2) -∗ wpB c (k ⟨⟩) Q)
      -∗ wpB c (at' (k0_part34 (F := F)) v98 >>= k) Q) := by
  unfold at'
  rw [k0_part34_eq_skeleton]; unfold k0_part34_skel
  simp only [Prog.lift, Prog.bind_op, Prog.bind_ret, Prog.pure_eq_ret]
  iintro #HE Hr Ht HO Ho Hk
  iapply (got 1 2 rfl rfl) $$ HE Hr HO
  iintro Hr HO
  iapply (got_load 1 2 rfl) $$ Hr
  iintro Hr
  iapply load_any $$ Ho
  iintro %Z Ho
  iapply (o_store 1 2 (recc m c 1 2) rfl rfl) $$ Ho
  iintro Ho
  iapply (sent 1 3 rfl rfl) $$ HE Ht HO
  iintro Ht HO
  iapply Hk $$ Hr Ht HO Ho

end Parts

end Cert.KProof
-- ==== Proof.Body5.lean ====
/-
# The whole body of the kernel on one device
-/
module

public import proofs.«01_k».proof.Proof.Body4

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Chain

variable {m : (ℓ : Loc nD τ sig) → Buf (Elt F) ℓ} {c : Dev nD} {K : Dev nD × Key → ℕ}

theorem wpB_bind {α β : Type} (p : Prog (TpuEff nD τ sig (Elt F) Λ₀ .tc) α) (k : α → Prog (TpuEff nD τ sig (Elt F) Λ₀ .tc) β) (Q : β → sProp 𝕄) :
    wpB c (p >>= k) Q = wpB c p (fun x => wpB c (k x) Q) := wp_bind ..

theorem wpB_ret {α : Type} {a : α} {Q : α → sProp 𝕄} : Q a ⊢ wpB c (Prog.ret a) Q := (fupd_intro).trans (Entails.of_eq (wp_ret ..).symm)

theorem sep2 {A B : sProp 𝕄} : A ⊢ iprop(B -∗ A ∗ B) := by
  iintro H1 H2
  isplitl [H1]; · iexact H1
  iexact H2
theorem sep3 {A B C : sProp 𝕄} : A ⊢ iprop(B -∗ C -∗ A ∗ B ∗ C) := by
  iintro H1 H2 H3
  isplitl [H1]; · iexact H1
  isplitl [H2]; · iexact H2
  iexact H3
theorem sep4 {A B C D : sProp 𝕄} : A ⊢ iprop(B -∗ C -∗ D -∗ A ∗ B ∗ C ∗ D) := by
  iintro H1 H2 H3 H4
  isplitl [H1]; · iexact H1
  isplitl [H2]; · iexact H2
  isplitl [H3]; · iexact H3
  iexact H4

theorem sW_intro {j : Fin 3} {ch : Fin 4} : sC (F := F) c j ch ⊢ iprop(atPos ER (cell c (some (false, j, ch))) 0 ∅ 0 -∗ sW c j ch) := by
  iintro H1 H2
  isplitl [H1]; · iexact H1
  iexact H2

theorem tg_intro {j : Fin 3} : (four fun ch => ownA (F := F) (up c j) (rP j ch)) ⊢ iprop((four fun ch => tok c j ch) -∗ four fun ch => tg c j ch) := by
  iintro ⟨A0, A1, A2, A3⟩ ⟨B0, B1, B2, B3⟩
  isplitl [A0 B0]; · isplitl [A0]; · iexact A0
                     iexact B0
  isplitl [A1 B1]; · isplitl [A1]; · iexact A1
                     iexact B1
  isplitl [A2 B2]; · isplitl [A2]; · iexact A2
                     iexact B2
  isplitl [A3]; · iexact A3
  iexact B3

/-! ## What the body starts with, by kind -/

/-- The two inputs: the pieces of `x` with their places, the slots, the pieces of `w`. -/
abbrev inIn (m : (ℓ : Loc nD τ sig) → Buf (Elt F) ℓ) (c : Dev nD) : sProp 𝕄 :=
  iprop((four fun ch => xIdle m c ch) ∗ (wFree c 0 ∗ wFree c 1) ∗ (wSrc m c (up c 0) ∗ wSrc m c (up c 1) ∗ wSrc m c (up c 2) ∗ wSrc m c c)
    ∗ (sxO m c ∗ swO m c) ∗ (four fun ch => ownA (F := F) c (xfP ch)) ∗ (ownA (F := F) c (wfP 0) ∗ ownA (F := F) c (wfP 1)))
/-- The exchange: the buffers' chunks, the tokens of what is paid, the positions and the launch credit. -/
abbrev inEx (c : Dev nD) : sProp 𝕄 :=
  iprop((three fun j => four fun ch => ownA (F := F) c (rP j ch)) ∗ (three fun j => four fun ch => ownA (F := F) c (sP j ch))
    ∗ (dutyTok ER (cell (up c 0) none) 0 2 ∗ dutyTok ER (cell (up c 1) none) 0 1 ∗ dutyTok ER (cell (up c 2) none) 0 0) ∗ (three fun j => four fun ch => tok c j ch)
    ∗ cred (tallyAt (cell c none) () 3) ∗ atPos ER (cell c none) 0 ∅ 0
    ∗ (three fun j => four fun ch => atPos ER (cell c (some (false, j, ch))) 0 ∅ 0) ∗ (three fun j => four fun ch => rW c j ch))
/-- The output stages and the result's row blocks. -/
abbrev inOut (c : Dev nD) : sProp 𝕄 :=
  iprop((oFree (F := F) c 0 ∗ oFree (F := F) c 1) ∗ ownA (F := F) c (oHP c) ∗ (three fun j => ownA (F := F) c (oHP (dn c j))))

/-! ## What it ends with -/

abbrev outIn (m : (ℓ : Loc nD τ sig) → Buf (Elt F) ℓ) (c : Dev nD) : sProp 𝕄 :=
  iprop((four fun ch => xCv m c ch) ∗ (wFree c 0 ∗ wFree c 1) ∗ (sxO m c ∗ swO m c) ∗ (four fun ch => xQ m c ch) ∗ (wQ m c 0 (up c 2) ∗ wQ m c 1 c))
abbrev outEx (m : (ℓ : Loc nD τ sig) → Buf (Elt F) ℓ) (c : Dev nD) : sProp 𝕄 :=
  iprop((three fun j => four fun ch => sD m c j ch) ∗ (three fun j => four fun ch => rD m c j ch) ∗ semVal (cell c none) 0)
abbrev outOut (m : (ℓ : Loc nD τ sig) → Buf (Elt F) ℓ) (c : Dev nD) : sProp 𝕄 :=
  iprop((oFree c 0 ∗ oFree c 1) ∗ dQ c c (ownc m c) ∗ (three fun j => dQ c (dn c j) (recc m c j)))

/-- The chunks owed, in the order they are sent. -/
abbrev owedChunks : List Debt :=
  [.inr (1, 0), .inr (1, 1), .inr (1, 2), .inr (1, 3), .inr (0, 0), .inr (0, 1), .inr (0, 2), .inr (0, 3), .inr (2, 0), .inr (2, 1), .inr (2, 2), .inr (2, 3)]

theorem debts_inr : ∀ x ∈ owedChunks, ∃ y, x = Sum.inr y := by
  intro x hx
  simp only [List.mem_cons, List.not_mem_nil, or_false] at hx
  rcases hx with h | h | h | h | h | h | h | h | h | h | h | h <;> exact ⟨_, h⟩

theorem debts_eq : debts = .inl 0 :: .inl 1 :: .inl 2 :: owedChunks := rfl

set_option maxHeartbeats 4000000 in
/-- The body on device `c`. -/
theorem body_run {Q : PUnit → sProp 𝕄} :
    env m K ⊢ iprop(inIn m c -∗ inEx c -∗ inOut c -∗ Ow c (.inl 0 :: .inl 1 :: .inl 2 :: owedChunks)
      -∗ (outIn m c -∗ outEx m c -∗ outOut m c -∗ Ow c [] -∗ Q ⟨⟩)
      -∗ wpB c (at' (cc0_body (F := F))) Q) := by
  unfold at'
  rw [cc0_body_eq_skeleton]; unfold cc0_body_skel
  rw [wpB_bind, k0_part35_eq_skeleton]; unfold k0_part35_skel
  iintro #HE ⟨⟨X0, X1, X2, X3⟩, ⟨W0, W1⟩, ⟨S0, S1, S2, S3⟩, ⟨Hsx, Hsw⟩, ⟨F0, F1, F2, F3⟩, ⟨G0, G1⟩⟩
    ⟨⟨R0, R1, R2⟩, ⟨⟨B00, B01, B02, B03⟩, ⟨B10, B11, B12, B13⟩, ⟨B20, B21, B22, B23⟩⟩, ⟨T0, T1, T2⟩, ⟨K0, K1, K2⟩, Hcb, Hab,
      ⟨⟨A00, A01, A02, A03⟩, ⟨A10, A11, A12, A13⟩, ⟨A20, A21, A22, A23⟩⟩, ⟨⟨V00, V01, V02, V03⟩, ⟨V10, V11, V12, V13⟩, ⟨V20, V21, V22, V23⟩⟩⟩
    ⟨⟨⟨⟨O00, O01, O02, O03⟩, P0⟩, ⟨O10, O11, O12, O13⟩, P1⟩, Dc, ⟨D0, D1, D2⟩⟩ HO Hk
  iapply part1 $$ HE X0 X1 W0 S1
  iintro %v2 X0 X1 W0
  iapply part2 $$ HE X2 X3 R2 T0 HO
  iintro %v60 X2 X3 HO
  iapply (part3 debts_inr) $$ HE R1 T1 R0 T2 Hcb Hab HO Hsx Hsw X0 F0
  iintro %v88 ⟨R0, R1, R2⟩ Hb HO Hsx Hsw X0 F0
  ihave T0 := (tg_intro (j := 0)) $$ R0 K0
  icases T0 with ⟨T00, T01, T02, T03⟩
  ihave T1 := (tg_intro (j := 1)) $$ R1 K1
  icases T1 with ⟨T10, T11, T12, T13⟩
  ihave T2 := (tg_intro (j := 2)) $$ R2 K2
  icases T2 with ⟨T20, T21, T22, T23⟩
  iapply part4 $$ HE W1 S0 W0 HO
  iintro %v98 W1 W0 Hv HO
  iapply part5 $$ HE W0 G0 F0 B10
  iintro W0 G0 F0 B10
  iapply part6 $$ HE B10 T10 HO X1 F1 G0 B11
  iintro C10 HO X1 F1 G0 B11
  iapply part7 $$ HE B11 T11 HO X2 F2 G0
  iintro C11 HO X2 F2 G0
  iapply part8 $$ HE B12 T12 HO X3 F3
  iintro C12 HO X3 F3
  iapply part9 $$ HE G0 B13 T13 HO
  iintro %v9 C13 HO G0
  iapply part10 $$ HE [W0 Hv] S2 W1 HO
  · isplitl [W0]; · iexact W0
    iexact Hv
  iintro %v277 W0 W1 HO
  iapply part11 $$ HE G1 F0 B00 T00 HO
  iintro G1 F0 C00 HO
  iapply part12 $$ HE G1 F1 F2 B01 T01 HO
  iintro G1 F1 F2 C01 HO
  iapply part13 $$ HE G1 F3 B02 T02 HO
  iintro G1 F3 C02 HO
  iapply part14 $$ HE B03 T03 HO
  iintro %v14 C03 HO
  ihave G0 := (any_intro (M := wfP 0) (wq m c (up c 1))) $$ G0
  iapply part15 $$ HE W1 S3 W0 HO G0 F0
  iintro W1 W0 HO G0 F0
  iapply part16 $$ HE G0 F1 B20 T20 HO
  iintro G0 F1 C20 HO
  iapply part17 $$ HE G0 F2 B21 T21 HO
  iintro G0 F2 C21 HO
  iapply part18 $$ HE G0 F3 B22 T22 HO
  iintro G0 F3 C22 HO
  ihave G1 := (any_intro (M := wfP 1) (wq m c (up c 0))) $$ G1
  iapply part19 $$ HE B23 T23 HO W1 G1
  iintro C23 HO W1 G1
  iapply part20 $$ G1 F0 F1 O00
  iintro G1 F0 F1 O00
  iapply part21 $$ G1 F2 F3 O01 O02
  iintro G1 F2 F3 O01 O02
  iapply part22 $$ O00 O01 O02 O03 Dc P0
  iintro Q0
  ihave C00 := sW_intro $$ C00 A00
  ihave C01 := sW_intro $$ C01 A01
  ihave C02 := sW_intro $$ C02 A02
  ihave C03 := sW_intro $$ C03 A03
  iapply part23 $$ HE C00 V00 C01 HO O10
  iintro C00 V00 C01 HO O10
  iapply part24 $$ HE V01 C02 HO O11
  iintro V01 C02 HO O11
  iapply part25 $$ HE V02 C03 HO O12
  iintro %v25 V02 C03 HO O12
  iapply part26 $$ HE V03 HO O10 O11 O12 O13 D0 P1
  iintro %v26 V03 HO Q1
  ihave C20 := sW_intro $$ C20 A20
  ihave C21 := sW_intro $$ C21 A21
  ihave C22 := sW_intro $$ C22 A22
  ihave C23 := sW_intro $$ C23 A23
  iapply part27 $$ HE Q0 C20 V20 HO
  iintro Dc ⟨⟨O00, O01, O02, O03⟩, P0⟩ C20 V20 HO
  iapply part28 $$ HE O00 C21 V21 HO
  iintro O00 C21 V21 HO
  iapply part29 $$ HE O01 O02 C22 V22 HO
  iintro O01 O02 C22 V22 HO
  iapply part30 $$ HE C23 V23 HO O03
  iintro C23 V23 HO O03
  ihave C10 := sW_intro $$ C10 A10
  ihave C11 := sW_intro $$ C11 A11
  ihave C12 := sW_intro $$ C12 A12
  ihave C13 := sW_intro $$ C13 A13
  iapply part31 $$ HE [O00 O01 O02 O03] D2 P0 Q1 C10 HO
  · isplitl [O00]; · iexact O00
    isplitl [O01]; · iexact O01
    isplitl [O02]; · iexact O02
    iexact O03
  iintro Q0 D0 ⟨⟨O10, O11, O12, O13⟩, P1⟩ C10 HO
  iapply part32 $$ HE V10 C11 HO O10
  iintro %v32 V10 C11 HO O10
  iapply part33 $$ HE V11 C12 HO O11
  iintro V11 C12 HO O11
  iapply part34 $$ HE V12 C13 HO O12
  iintro V12 C13 HO O12
  simp only [Prog.lift, Prog.bind_op, Prog.bind_ret, Prog.pure_eq_ret]
  iapply (got 1 3 rfl rfl) $$ HE V13 HO
  iintro V13 HO
  iapply (got_load 1 3 rfl) $$ V13
  iintro V13
  iapply load_any $$ O13
  iintro %Z O13
  iapply (o_store 1 3 (recc m c 1 3) rfl rfl) $$ O13
  iintro O13
  iapply wpB_ret
  iapply (out_start 1 (dn c 1) (recc m c 1) rfl rfl (off4_2 c)) $$ [O10 O11 O12 O13] D1 P1
  · isplitl [O10]; · iexact O10
    isplitl [O11]; · iexact O11
    isplitl [O12]; · iexact O12
    iexact O13
  iintro Q1
  iapply (out_wait 0 (dn c 2) (recc m c 2) rfl (off4_1 c)) $$ HE Q0 HO
  iintro ⟨D2, O0, P0, HO⟩
  iapply (out_wait 1 (dn c 1) (recc m c 1) rfl (off4_2 c)) $$ HE Q1 HO
  iintro ⟨D1, O1, P1, HO⟩
  iapply wpB_ret
  ihave X0 := sep4 $$ X0 X1 X2 X3
  ihave W0 := sep2 $$ W0 W1
  ihave Hsx := sep2 $$ Hsx Hsw
  ihave F0 := sep4 $$ F0 F1 F2 F3
  ihave G0 := sep2 $$ G0 G1
  ihave C00 := sep4 $$ C00 C01 C02 C03
  ihave C10 := sep4 $$ C10 C11 C12 C13
  ihave C20 := sep4 $$ C20 C21 C22 C23
  ihave C00 := sep3 $$ C00 C10 C20
  ihave V00 := sep4 $$ V00 V01 V02 V03
  ihave V10 := sep4 $$ V10 V11 V12 V13
  ihave V20 := sep4 $$ V20 V21 V22 V23
  ihave V00 := sep3 $$ V00 V10 V20
  ihave D0 := sep3 $$ D0 D1 D2
  ihave O0 := sep2 $$ O0 P0
  ihave O1 := sep2 $$ O1 P1
  ihave O0 := sep2 $$ O0 O1
  iapply Hk $$ [X0 W0 Hsx F0 G0] [C00 V00 Hb] [O0 Dc D0] HO
  · isplitl [X0]; · iexact X0
    iapply sep4 $$ W0 Hsx F0 G0
  · iapply sep3 $$ C00 V00 Hb
  · iapply sep3 $$ O0 Dc D0
end Chain

end Cert.KProof
-- ==== Proof.Ghost.lean ====
/-
# The launch's ghost state: cells, tokens and credits, dealt to the devices

Every device owns twenty-five cells, all allocated at once over the whole machine. A duty's token starts with the cell
and goes to the device that pays the duty; the launch credit of a cell is what all devices owe it.
-/
module

public import proofs.«01_k».proof.Proof.Body5

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the keys -/

theorem sep_right (P Q R : sProp 𝕄) : iprop((P ∗ Q) ∗ R) = iprop(P ∗ Q ∗ R) := BI.equiv_iff.mp ⟨BI.sep_assoc, BI.sep_assoc'⟩

theorem bigSep_key (Φ : Key → sProp 𝕄) : bigSep Finset.univ Φ
    = iprop(Φ none ∗ (three fun j => four fun ch => Φ (some (false, j, ch))) ∗ (three fun j => four fun ch => Φ (some (true, j, ch)))) := by
  rw [bigSep_univ_equiv (Equiv.optionEquivSumPUnit (Bool × Fin 3 × Fin 4)).symm, bigSep_univ_sum, bigSep_univ_prod,
    show (Finset.univ : Finset Bool) = {false, true} from by decide, bigSep_insert (by decide), bigSep_singleton, bigSep_univ_prod, bigSep_univ_prod,
    bigSep_three, bigSep_three]
  simp only [bigSep_four]
  rw [show (Finset.univ : Finset PUnit.{1}) = {PUnit.unit} from rfl, bigSep_singleton]
  exact BI.equiv_iff.mp ⟨BI.sep_comm, BI.sep_comm⟩

/-- The four devices from `c` on: those at the three distances, then `c`. -/
theorem bigSep_up (c : Dev nD) (Φ : Fin 4 → sProp 𝕄) : bigSep Finset.univ Φ = iprop(Φ (up c 0) ∗ Φ (up c 1) ∗ Φ (up c 2) ∗ Φ c) :=
  bigSep_univ_eq_bigSepL [up c 0, up c 1, up c 2, c] (by revert c; decide) (by revert c; decide) Φ
theorem bigSep_dn (c : Dev nD) (Φ : Fin 4 → sProp 𝕄) : bigSep Finset.univ Φ = iprop(Φ c ∗ three fun j => Φ (dn c j)) :=
  bigSep_univ_eq_bigSepL [c, dn c 0, dn c 1, dn c 2] (by revert c; decide) (by revert c; decide) Φ

/-- The devices shifted by a distance. -/
def upE (j : Fin 3) : Dev nD ≃ Dev nD where
  toFun c := up c j
  invFun c := dn c j
  left_inv c := dn_up c j
  right_inv c := up_dn c j

/-! ## The semaphores of one device -/

set_option backward.proofsInPublic true in
/-- The kernel's own semaphores: all but the two of the windows' stages. -/
abbrev osem (i : Fin 32) : SemLoc sig := .dma ⟨2 + i.val, by have := i.isLt; show _ < 34; omega⟩

theorem ownSemFacts : Pipeline.OwnSemFacts cfg0.spec osem := by decide

/-- The semaphores of the local copies at zero. -/
abbrev localSems (c : Dev nD) : sProp 𝕄 := iprop((four fun ch => xSv c ch) ∗ (wSv c 0 ∗ wSv c 1) ∗ (oSv c 0 ∗ oSv c 1))

theorem ownSems_list (c : Dev nD) : (Pipeline.ownSems0 (Ix := Unit) (Name := ℕ) (U := UU) (Lvl := ℕ) (Val := Elt F) (τ := τ) osem c : sProp 𝕄)
    = iprop((four fun ch => xSv c ch) ∗ (wSv c 0 ∗ wSv c 1) ∗ (three fun j => four fun ch => semVal (cell c (some (false, j, ch))) 0)
      ∗ (three fun j => four fun ch => semVal (cell c (some (true, j, ch))) 0) ∗ (oSv c 0 ∗ oSv c 1)) := by
  rw [Pipeline.ownSems0_eq_of_list c osem (List.finRange 32) (by decide) (by decide)]
  simp only [four, three, sep_right]
  rfl

theorem barSems_eq (c : Dev nD) : (unscopedSems0 c : sProp 𝕄) = semVal (cell c none) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ iprop(localSems c ∗ bigSep Finset.univ fun k : Key => (semVal (cell c k) 0 : sProp 𝕄)) := by
  rw [ownSems_list, barSems_eq, bigSep_key]
  iintro ⟨⟨Hx, Hw, Hs, Hr, Ho⟩, Hb⟩
  isplitl [Hx Hw Ho]
  · iapply sep3 $$ Hx Hw Ho
  · iapply sep3 $$ Hb Hs Hr

/-! ## The launch element -/

def cells0 : Finset (GSem nD τ sig) := (Finset.univ : Finset (Dev nD × Key)).map ⟨fun x => cell x.1 x.2, by
  rintro ⟨c, k⟩ ⟨c', k'⟩ h
  have h1 : c = c' := congrArg (fun g : GSem nD τ sig => g.1.1) h
  have h2 : k = k' := csem_injective (congrArg Prod.snd h)
  rw [h1, h2]⟩

/-- A duty: of a barrier, or the one of a send or receive cell. -/
def dutyOf : Fin 3 ⊕ (Bool × Fin 3 × Fin 4) → Key × Fin 3
  | .inl d => (none, d)
  | .inr x => (some x, 0)

theorem dutyOf_injective : Function.Injective dutyOf := by
  rintro (d | x) (d' | x') h
  · exact congrArg Sum.inl (congrArg Prod.snd h)
  · cases congrArg Prod.fst h
  · cases congrArg Prod.fst h
  · exact congrArg Sum.inr (Option.some.inj (congrArg Prod.fst h))

def toks0 : Finset (GSem nD τ sig × ℕ × Fin 3) :=
  (Finset.univ : Finset (Dev nD × (Fin 3 ⊕ (Bool × Fin 3 × Fin 4)))).map ⟨fun x => (cell x.1 (dutyOf x.2).1, 0, (dutyOf x.2).2), by
    rintro ⟨c, x⟩ ⟨c', x'⟩ h
    have h0 := congrArg (fun y : GSem nD τ sig × ℕ × Fin 3 => y.1) h
    have h1 : c = c' := congrArg (fun g : GSem nD τ sig => g.1.1) h0
    have h2 : (dutyOf x).1 = (dutyOf x').1 := csem_injective (congrArg Prod.snd h0)
    have h3 : (dutyOf x).2 = (dutyOf x').2 := congrArg (fun y : GSem nD τ sig × ℕ × Fin 3 => y.2.2) h
    rw [h1, dutyOf_injective (Prod.ext h2 h3)]⟩

def u₀ : UU :=
  (initOf (Pipeline.cells cfgs cellOf_inj) (Pipeline.launchToks cfgs cellOf_inj), (initOf cells0 toks0, 1))

variable (m : (ℓ : Loc nD τ sig) → Buf (Elt F) ℓ)

/-- The tokens of a device's own cells. -/
def minted (c : Dev nD) : sProp 𝕄 :=
  iprop((three fun d => dutyTok ER (cell c none) 0 d) ∗ (three fun j => four fun ch => dutyTok ER (cell c (some (false, j, ch))) 0 0)
    ∗ (three fun j => four fun ch => dutyTok ER (cell c (some (true, j, ch))) 0 0))

/-- The tokens of the duties that a device pays. -/
def paid (c : Dev nD) : sProp 𝕄 :=
  iprop((dutyTok ER (cell (up c 0) none) 0 2 ∗ dutyTok ER (cell (up c 1) none) 0 1 ∗ dutyTok ER (cell (up c 2) none) 0 0)
    ∗ (three fun j => four fun ch => tok c j ch))

/-- What the launch element deals to a device. -/
def G (c : Dev nD) : sProp 𝕄 :=
  iprop((bigSep Finset.univ fun k : Key => roundState ER (Rd m) (cell c k) 0)
    ∗ (bigSep Finset.univ fun k : Key => atPos ER (cell c k) 0 ∅ 0) ∗ (bigSep Finset.univ fun k : Key => reached ER (cell c k) 0) ∗ minted c)

theorem fund_cells : BI.own (ER (initOf cells0 toks0)) ⊢ (|==> bigSep Finset.univ (G m) : sProp 𝕄) := by
  have hX (Φ : GSem nD τ sig → sProp 𝕄) : bigSep cells0 Φ = bigSep Finset.univ fun c : Dev nD => bigSep Finset.univ fun k : Key => Φ (cell c k) := by
    unfold cells0; rw [bigSep_map, bigSep_univ_prod]; rfl
  have hT : bigSep toks0 (fun x => (dutyTok ER x.1 x.2.1 x.2.2 : sProp 𝕄)) = bigSep Finset.univ fun c : Dev nD => minted c := by
    unfold toks0; rw [bigSep_map, bigSep_univ_prod]
    refine bigSep_congr fun c _ => ?_
    unfold minted
    rw [bigSep_univ_sum, bigSep_three, bigSep_univ_prod,
      show (Finset.univ : Finset Bool) = {false, true} from by decide, bigSep_insert (by decide), bigSep_singleton, bigSep_univ_prod, bigSep_univ_prod,
      bigSep_three, bigSep_three]
    simp only [bigSep_four]
    rfl
  iintro HX
  imod (Rounds.fund ER (Rd m) cells0 toks0) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iapply sep4 $$ Hst Hat Hr Htok

/-! ## The invariants allocated, the tokens dealt -/

theorem alloc_device (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k : Key => reached ER (cell c k) 0) ∗ ((localSems c ∗ bigSep Finset.univ fun k : Key => atPos ER (cell c k) 0 ∅ 0) ∗ minted c)) := by
  unfold G
  iintro ⟨Hos, Hus, Hst, Hat, Hr, Htok⟩
  ihave Hv := (sems_split c) $$ [Hos Hus]
  · isplitl [Hos]; · iexact Hos
    iexact Hus
  icases Hv with ⟨Hl, Hv⟩
  imod (show iprop((bigSep Finset.univ fun k : Key => semVal (cell c k) 0) ∗ bigSep Finset.univ fun k : Key => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hl Hat]
  · isplitl [Hl]; · iexact Hl
    iexact Hat
  iexact Htok

theorem deal : (bigSep Finset.univ fun c : Dev nD => (minted c : sProp 𝕄)) ⊢ bigSep Finset.univ fun c : Dev nD => paid c := by
  have hb (d j : Fin 3) : (bigSep Finset.univ fun c : Dev nD => (dutyTok ER (cell c none) 0 d : sProp 𝕄))
      = bigSep Finset.univ fun c : Dev nD => dutyTok ER (cell (up c j) none) 0 d :=
    bigSep_univ_equiv (upE j) (fun c : Dev nD => (dutyTok ER (cell c none) 0 d : sProp 𝕄))
  have hr (j : Fin 3) (ch : Fin 4) : (bigSep Finset.univ fun c : Dev nD => (dutyTok ER (cell c (some (true, j, ch))) 0 0 : sProp 𝕄))
      = bigSep Finset.univ fun c : Dev nD => dutyTok ER (cell (up c j) (some (true, j, ch))) 0 0 :=
    bigSep_univ_equiv (upE j) (fun c : Dev nD => (dutyTok ER (cell c (some (true, j, ch))) 0 0 : sProp 𝕄))
  unfold minted paid tok
  simp only [bigSep_sep']
  rw [hb 0 2, hb 1 1, hb 2 0, hr 0 0, hr 0 1, hr 0 2, hr 0 3, hr 1 0, hr 1 1, hr 1 2, hr 1 3, hr 2 0, hr 2 1, hr 2 2, hr 2 3]
  iintro ⟨⟨H0, H1, H2⟩, ⟨⟨S00, S01, S02, S03⟩, ⟨S10, S11, S12, S13⟩, ⟨S20, S21, S22, S23⟩⟩, ⟨⟨R00, R01, R02, R03⟩, ⟨R10, R11, R12, R13⟩, ⟨R20, R21, R22, R23⟩⟩⟩
  isplitl [H0 H1 H2]
  · iapply sep3 $$ H2 H1 H0
  ihave S00 := sep2 $$ S00 R00
  ihave S01 := sep2 $$ S01 R01
  ihave S02 := sep2 $$ S02 R02
  ihave S03 := sep2 $$ S03 R03
  ihave S10 := sep2 $$ S10 R10
  ihave S11 := sep2 $$ S11 R11
  ihave S12 := sep2 $$ S12 R12
  ihave S13 := sep2 $$ S13 R13
  ihave S20 := sep2 $$ S20 R20
  ihave S21 := sep2 $$ S21 R21
  ihave S22 := sep2 $$ S22 R22
  ihave S23 := sep2 $$ S23 R23
  ihave S00 := sep4 $$ S00 S01 S02 S03
  ihave S10 := sep4 $$ S10 S11 S12 S13
  ihave S20 := sep4 $$ S20 S21 S22 S23
  iapply sep3 $$ S00 S10 S20

/-- What the launch makes of the ghost state on a device: the machine's records, and what is its own. -/
def G' (c : Dev nD) : sProp 𝕄 :=
  iprop((∃ K, records m K) ∗ (localSems c ∗ bigSep Finset.univ fun k : Key => atPos ER (cell c k) 0 ∅ 0) ∗ paid c)

theorem regroup :
    (bigSep Finset.univ fun c : Dev nD => iprop((bigSep Finset.univ fun k => iprop(∃ κ : ℕ, cellInv ER (Rd m) κ (cell c k)))
          ∗ (bigSep Finset.univ fun k : Key => reached ER (cell c k) 0) ∗ ((localSems c ∗ bigSep Finset.univ fun k : Key => atPos ER (cell c k) 0 ∅ 0) ∗ minted c)) : sProp 𝕄)
      ⊢ bigSep Finset.univ (G' m) := by
  have hG : bigSep Finset.univ (G' m) = iprop((bigSep Finset.univ fun _ : Dev nD => iprop(∃ K, records m K))
      ∗ (bigSep Finset.univ fun c : Dev nD => iprop(localSems c ∗ bigSep Finset.univ fun k : Key => atPos ER (cell c k) 0 ∅ 0))
      ∗ bigSep Finset.univ fun c : Dev nD => paid c) := by
    unfold G'; rw [bigSep_sep', bigSep_sep']
  rw [hG, bigSep_sep', bigSep_sep', bigSep_sep' Finset.univ (fun c : Dev nD => iprop(localSems c ∗ bigSep Finset.univ fun k : Key => atPos ER (cell c k) 0 ∅ 0)) minted,
    ← bigSep_univ_prod (fun ck : Dev nD × Key => iprop(∃ κ : ℕ, cellInv ER (Rd m) κ (cell ck.1 ck.2))),
    ← bigSep_univ_prod (fun ck : Dev nD × Key => (reached ER (cell ck.1 ck.2) 0 : sProp 𝕄))]
  iintro ⟨HI, #HR, Hl, Htok⟩
  ihave HK := (BI.bigSep_exists_pi Finset.univ (fun (ck : Dev nD × Key) (κ : ℕ) => (cellInv ER (Rd m) κ (cell ck.1 ck.2) : sProp 𝕄))) $$ HI
  icases HK with ⟨%K, #HI⟩
  ihave Htk := deal $$ Htok
  isplitr [Hl Htk]
  · iapply (BI.bigSep_of_persistent Finset.univ (iprop(∃ K, records m K)))
    iexists K
    unfold records
    isplitl; · iexact HI
    iexact HR
  isplitl [Hl]; · iexact Hl
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_device m c).trans (bigSep_fupd _ _)).trans (BI.fupd_mono (regroup m))

/-! ## The launch credit -/

def debtKey : Debt → Key
  | .inl _ => none
  | .inr (j, ch) => some (true, j, ch)
def debtDev (d : Dev nD) : Debt → Dev nD
  | .inl k => up d k
  | .inr (j, _) => up d j

theorem debtCell_eq (d : Dev nD) (x : Debt) : debtCell d x = cell (debtDev d x) (debtKey x) := by rcases x with k | ⟨j, ch⟩ <;> rfl
theorem debtAmt_eq (x : Debt) : debtAmt x = amt (debtKey x) := by rcases x with k | ⟨j, ch⟩ <;> rfl

theorem cell_eq_iff {c c' : Dev nD} {k k' : Key} : Iff (cell c k = cell c' k') (c = c' ∧ k = k') :=
  ⟨fun h => ⟨congrArg (fun g : GSem nD τ sig => g.1.1) h, csem_injective (congrArg Prod.snd h)⟩, fun ⟨h, h'⟩ => by rw [h, h']⟩

/-- How many of `d`'s debts `l` are to the cell `k` of `c`. -/
def owing (d c : Dev nD) (k : Key) (l : List Debt) : ℕ := l.countP fun x => decide (c = debtDev d x ∧ k = debtKey x)

theorem owedOf_cell (d c : Dev nD) (k : Key) (l : List Debt) : owedOf d l (cell c k) () = owing d c k l * amt k := by
  induction l with
  | nil => exact (Nat.zero_mul _).symm
  | cons x l ih =>
    unfold owedOf owing
    rw [Pi.add_apply, Finsupp.add_apply, tallyAt_apply, List.countP_cons, ih, Nat.add_mul, debtCell_eq, debtAmt_eq]
    refine congrArg _ ?_
    by_cases h : c = debtDev d x ∧ k = debtKey x
    · rw [if_pos ⟨cell_eq_iff.mpr h, rfl⟩, if_pos (decide_eq_true h), Nat.one_mul, h.2]
    · rw [if_neg fun h' => h (cell_eq_iff.mp h'.1), if_neg (fun h' => h (of_decide_eq_true h')), Nat.zero_mul]

theorem owing_bar (c : Dev nD) : ∑ d : Dev nD, owing d c none debts = 3 := by revert c; decide
theorem owing_recv (c : Dev nD) (j : Fin 3) (ch : Fin 4) : ∑ d : Dev nD, owing d c (some (true, j, ch)) debts = 1 := by revert c j ch; decide

theorem launch_cell (c : Dev nD) (k : Key) (n : ℕ) (h : ∑ d : Dev nD, owing d c k debts = n) :
    tallyOn (cell c k) (launchCredit (Pipeline.owing O₀) 0 (cell c k)) = (tallyAt (cell c k) () (n * amt k) : CellTallies nD τ sig Unit) := by
  unfold tallyAt; refine congrArg _ (Finsupp.ext fun u => ?_); cases u
  rw [Pipeline.launchCredit_owing, Finsupp.single_eq_same]
  exact (Finset.sum_congr rfl fun d _ => owedOf_cell d c k debts).trans (by rw [← Finset.sum_mul, h])

theorem creds (c : Dev nD) :
    (Pipeline.launchCred O₀ c : sProp 𝕄) ⊢ iprop(cred (tallyAt (cell c none) () 3) ∗ three fun j => four fun ch => cred (tallyAt (cell c (some (true, j, ch))) () N)) := by
  have h : (Pipeline.launchCred O₀ c : sProp 𝕄) ⊢ bigSep Finset.univ fun k : Key => cred (tallyOn (cell c k) (launchCredit (Pipeline.owing O₀) 0 (cell c k))) := by
    unfold Pipeline.launchCred
    refine (bigSep_subset (Finset.subset_univ ((Finset.univ : Finset Key).map ⟨csem, csem_injective⟩))).trans ?_
    rw [bigSep_map]
    exact BI.Entails.refl _
  have hb : (cred (tallyOn (cell c none) (launchCredit (Pipeline.owing O₀) 0 (cell c none))) : sProp 𝕄) ⊢ cred (tallyAt (cell c none) () 3) :=
    Entails.of_eq (by rw [launch_cell c none 3 (owing_bar c)]; rfl)
  have hr (j : Fin 3) (ch : Fin 4) : (cred (tallyOn (cell c (some (true, j, ch))) (launchCredit (Pipeline.owing O₀) 0 (cell c (some (true, j, ch))))) : sProp 𝕄)
      = cred (tallyAt (cell c (some (true, j, ch))) () N) := by
    rw [launch_cell c (some (true, j, ch)) 1 (owing_recv c j ch), Nat.one_mul]; rfl
  rw [bigSep_key] at h
  simp only [hr] at h
  iintro H
  ihave H := h $$ H
  icases H with ⟨Hb, -, Hr⟩
  isplitl [Hb]
  · iapply hb $$ Hb
  · iexact Hr

end Cert.KProof
-- ==== Proof.Entry.lean ====
/-
# A device's buffers at the kernel's entry and exit

The buffers enter whole, are handed to the body in pieces, and leave whole: the scratch at whatever it holds, the
result at the blocks that the device received and computed.
-/
module

public import proofs.«01_k».proof.Proof.Ghost

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Scratch

variable {c : Dev nD}

theorem any_whole (b : Ref sig .tc) : iprop(∃ f : Buf (Elt F) ((c : Thread nD τ).loc b), ((c : Thread nD τ).loc b) ↦{fullShare} f) = (ownA c (Memref.whole b) : sProp 𝕄) :=
  (Memref.IsWhole.exists_owns_eq (c := (c : Thread nD τ)) (Memref.isWhole_whole b) fullShare).symm

theorem bigSep_two (Φ : Fin 2 → sProp 𝕄) : bigSep Finset.univ Φ = iprop(Φ 0 ∗ Φ 1) := bigSep_univ_eq_bigSepL [0, 1] (by decide) (by decide) Φ

theorem bigSep_chunks (Φ : Fin 3 × Fin 4 → sProp 𝕄) : bigSep Finset.univ Φ = three fun j => four fun ch => Φ (j, ch) := by
  rw [bigSep_univ_prod, bigSep_three]; simp only [bigSep_four]

/-- A buffer at any contents is its pieces at any contents. -/
theorem any_pieces {s : Shape} {T : Type} [Fintype T] [DecidableEq T] (C : Cut s T) {sp : Space} {e : EltTy} {M : Memref sig .tc sp s e} :
    ownA (F := F) c M = bigSep Finset.univ fun t => ownA (F := F) c (M.slice (C.r t) (C.hr t)) :=
  BI.equiv_iff.mp ⟨any_cut C, any_glue C⟩

theorem any_squeeze {s s' : Shape} {sp : Space} {e : EltTy} (M : Memref sig .tc sp s e) (h : s.Squeezes s') :
    ownA (F := F) c M = ownA c (M.squeeze s' h) := by
  have h₁ : ownA (F := F) c M ⊢ ownA c (M.squeeze s' h) := by
    iintro ⟨%X, H⟩
    iexists (fun j => X (Shape.reshapeEquiv h.numel_eq j))
    rw [← own_squeeze M h]
    iexact H
  have h₂ : ownA c (M.squeeze s' h) ⊢ ownA (F := F) c M := by
    iintro ⟨%X, H⟩
    iexists (fun i => X ((Shape.reshapeEquiv h.numel_eq).symm i))
    rw [own_squeeze M h]
    simp only [Equiv.symm_apply_apply]
    iexact H
  exact BI.equiv_iff.mp ⟨h₁, h₂⟩

theorem xst_eq : (ownA c xst : sProp 𝕄) = four fun ch => ownA c (xsP ch) := (any_pieces cutX).trans (bigSep_four _)
theorem xf_eq : (ownA c xf : sProp 𝕄) = four fun ch => ownA c (xfP ch) := (any_pieces cutX).trans (bigSep_four _)
theorem wsl_eq : (ownA c wsl : sProp 𝕄) = iprop(ownA c (wsP 0) ∗ ownA c (wsP 1)) := (any_pieces cutW).trans (bigSep_two _)
theorem wf_eq : (ownA c wf : sProp 𝕄) = iprop(ownA c (wfP 0) ∗ ownA c (wfP 1)) := (any_pieces cutW).trans (bigSep_two _)
theorem snd_eq : (ownA c snd : sProp 𝕄) = three fun j => four fun ch => ownA c (sP j ch) := (any_pieces cutB).trans (bigSep_chunks _)
theorem rcv_eq : (ownA c rcv : sProp 𝕄) = three fun j => four fun ch => ownA c (rP j ch) := (any_pieces cutB).trans (bigSep_chunks _)
theorem osl_eq (s : Fin 2) : (ownA c (osl s) : sProp 𝕄) = four fun ch => ownA c (osP s ch) := (any_pieces cutO).trans (bigSep_four _)
theorem ost_eq : (ownA c ost : sProp 𝕄) = iprop((four fun ch => ownA c (osP 0 ch)) ∗ (four fun ch => ownA c (osP 1 ch))) := by
  rw [← osl_eq, ← osl_eq, any_pieces (F := F) (M := ost) cutS, bigSep_two]
  exact congrArg₂ _ (any_squeeze (ost.slice (sR 0) (fun _ => rfl)) _) (any_squeeze (ost.slice (sR 1) (fun _ => rfl)) _)

/-- The scratch in the pieces that the body uses. -/
abbrev scratch (c : Dev nD) : sProp 𝕄 :=
  iprop((four fun ch => ownA c (xsP ch)) ∗ (four fun ch => ownA c (xfP ch)) ∗ (ownA c (wsP 0) ∗ ownA c (wsP 1)) ∗ (ownA c (wfP 0) ∗ ownA c (wfP 1))
    ∗ (three fun j => four fun ch => ownA c (sP j ch)) ∗ (three fun j => four fun ch => ownA c (rP j ch))
    ∗ ((four fun ch => ownA c (osP 0 ch)) ∗ (four fun ch => ownA c (osP 1 ch))))

theorem scratch_eq : (Pipeline.scopedRest (Ix := Unit) (Name := ℕ) (U := UU) (Lvl := ℕ) (Val := Elt F) spec0 c : sProp 𝕄) = scratch c := by
  rw [scopedRest0_eq, any_whole, any_whole, any_whole, any_whole, any_whole, any_whole, any_whole,
    show Memref.whole cc0_scratch0 = xst from rfl, show Memref.whole cc0_scratch1 = xf from rfl, show Memref.whole cc0_scratch2 = wsl from rfl,
    show Memref.whole cc0_scratch3 = wf from rfl, show Memref.whole cc0_scratch4 = snd from rfl, show Memref.whole cc0_scratch5 = rcv from rfl,
    show Memref.whole cc0_scratch6 = ost from rfl]
  exact congrArg₂ _ xst_eq (congrArg₂ _ xf_eq (congrArg₂ _ wsl_eq (congrArg₂ _ wf_eq (congrArg₂ _ snd_eq (congrArg₂ _ rcv_eq ost_eq)))))

end Scratch

/-! ## The arguments and the result -/

variable (c : Dev nD)

/-- The halves of the arguments that stay behind. -/
abbrev kept : sProp 𝕄 :=
  iprop((((c : Thread nD τ).loc main_arg0) ↦{rh} m ((c : Thread nD τ).loc main_arg0)) ∗ (((c : Thread nD τ).loc main_arg1) ↦{rh} m ((c : Thread nD τ).loc main_arg1)))

/-- The block of rows `k` of the result on `c`: its own product's, or the one that `k` sent. -/
def outBlk (k : Dev nD) (ch : Fin 4) : S256x512.Idx → F .f32 := if k = c then ownc m c ch else k0_pay40 (blk m k c ch)
/-- The result on `c`. -/
def outArr : S4096x512.Idx → F .f32 := cutD.glue fun k => cutO.glue (outBlk m c k)

theorem outBlk_own : outBlk m c c = ownc m c := funext fun ch => if_pos rfl
theorem dn_ne (j : Fin 3) : dn c j ≠ c := by revert c j; decide
theorem outBlk_dn (j : Fin 3) : outBlk m c (dn c j) = recc m c j := funext fun ch => by
  unfold outBlk recc sblk; rw [if_neg (dn_ne c j), up_dn]

theorem x_enter : (((c : Thread nD τ).loc main_arg0) ↦{fullShare} m ((c : Thread nD τ).loc main_arg0) : sProp 𝕄)
    ⊢ iprop((four fun ch => own c (xHP ch) lh (xc m c ch)) ∗ (((c : Thread nD τ).loc main_arg0) ↦{rh} m ((c : Thread nD τ).loc main_arg0))) := by
  iintro H
  ihave H := (pointsTo_share (PosShare.mem_left_op_right fullShare)).1 $$ H
  icases H with ⟨Hl, Hr⟩
  isplitl [Hl]
  · iapply (((Entails.of_eq (owns_whole (c : Thread nD τ) main_arg0 lh (m ((c : Thread nD τ).loc main_arg0))).symm).trans (own_cut (M := xH) cutX (xArr m c))).trans
      (Entails.of_eq (bigSep_four fun ch => own c (xHP ch) lh (xc m c ch)))) $$ Hl
  iexact Hr

theorem w_enter : (((c : Thread nD τ).loc main_arg1) ↦{fullShare} m ((c : Thread nD τ).loc main_arg1) : sProp 𝕄)
    ⊢ iprop((wSrc m c (up c 0) ∗ wSrc m c (up c 1) ∗ wSrc m c (up c 2) ∗ wSrc m c c) ∗ (((c : Thread nD τ).loc main_arg1) ↦{rh} m ((c : Thread nD τ).loc main_arg1))) := by
  iintro H
  ihave H := (pointsTo_share (PosShare.mem_left_op_right fullShare)).1 $$ H
  icases H with ⟨Hl, Hr⟩
  isplitl [Hl]
  · iapply (((Entails.of_eq (owns_whole (c : Thread nD τ) main_arg1 lh (m ((c : Thread nD τ).loc main_arg1))).symm).trans (own_cut (M := wH) cutC (wArr m c))).trans
      (Entails.of_eq (bigSep_up c fun k => wSrc m c k))) $$ Hl
  iexact Hr

theorem o_enter : (((c : Thread nD τ).loc main_v1) ↦{fullShare} m ((c : Thread nD τ).loc main_v1) : sProp 𝕄)
    ⊢ iprop(ownA c (oHP c) ∗ (three fun j => ownA c (oHP (dn c j)))) := by
  refine .trans (Entails.of_eq (owns_whole (c : Thread nD τ) main_v1 fullShare (m ((c : Thread nD τ).loc main_v1))).symm) ?_
  exact ((any_intro (M := oH) _).trans (any_cut (M := oH) cutD)).trans (Entails.of_eq (bigSep_dn c fun k => ownA (F := F) c (oHP k)))

theorem o_leave : iprop(dQ c c (ownc m c) ∗ (three fun j => dQ c (dn c j) (recc m c j)))
    ⊢ (((c : Thread nD τ).loc main_v1) ↦{fullShare} outArr m c : sProp 𝕄) := by
  have h : (bigSep Finset.univ fun k => dQ (F := F) c k (outBlk m c k)) ⊢ own c oH fullShare (outArr m c) :=
    own_glue (M := oH) cutD fun k => cutO.glue (outBlk m c k)
  have e := owns_whole (Ix := Unit) (Name := ℕ) (U := UU) (Lvl := ℕ) (Val := Elt F) (c : Thread nD τ) main_v1 fullShare (outArr m c)
  rw [bigSep_dn c, outBlk_own] at h
  simp only [three, outBlk_dn] at h
  exact h.trans (Entails.of_eq e)

end Cert.KProof
-- ==== Proof.Run.lean ====
/-
# The launch

From any memory with zero counters, on the mesh of four devices: the kernel terminates, the arguments are unchanged, the
result holds its blocks, and every semaphore is back at zero.
-/
module

public import proofs.«01_k».proof.Proof.Entry
public import proofs.«01_k».proof.Proof.Gen.KernelIdeal.Points
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What a device holds before its body beside the scratch and the scales. -/
def held (c : Dev nD) : sProp 𝕄 :=
  iprop((∃ K, env m K) ∗ kept m c ∗ (four fun ch => own c (xHP ch) lh (xc m c ch)) ∗ (wSrc m c (up c 0) ∗ wSrc m c (up c 1) ∗ wSrc m c (up c 2) ∗ wSrc m c c)
    ∗ (ownA c (oHP c) ∗ (three fun j => ownA c (oHP (dn c j)))) ∗ localSems c
    ∗ (atPos ER (cell c none) 0 ∅ 0 ∗ (three fun j => four fun ch => atPos ER (cell c (some (false, j, ch))) 0 ∅ 0)
      ∗ (three fun j => four fun ch => atPos ER (cell c (some (true, j, ch))) 0 ∅ 0))
    ∗ paid c ∗ (cred (tallyAt (cell c none) () 3) ∗ three fun j => four fun ch => cred (tallyAt (cell c (some (true, j, ch))) () N)))

def Φ₀ (c : Dev nD) : sProp 𝕄 := iprop(held m c ∗ scratch c)

/-- After it: what stays behind, the result, the scratch and the semaphores at zero. -/
def Φ₁ (c : Dev nD) : sProp 𝕄 :=
  iprop((kept m c ∗ (((c : Thread nD τ).loc main_v1) ↦{fullShare} outArr m c) ∗ semVal (cell c none) 0)
    ∗ (localSems c ∗ (three fun j => four fun ch => semVal (cell c (some (false, j, ch))) 0) ∗ (three fun j => four fun ch => semVal (cell c (some (true, j, ch))) 0))
    ∗ scratch c)

def dats (_ : Fin 1) (c : Dev nD) : Dat τ (Elt F) Unit ℕ UU ℕ cfg0 c where
  A w := m ((cfg0.win w).arr.view.loc (c : Thread nD τ))
  after w _ := match w with
    | ⟨0, _⟩ => sxArr m c
    | ⟨1, _⟩ => swArr m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_0 (c : Dev nD) (d) : (dats m 0 c).before (0 : Fin 2) t0_0 d = sxArr m c := by
  unfold Dat.before; rw [if_pos (fetch0_0 t0_0)]
  exact Memref.readAt_unit_zero (Elt F) main_arg2 (funext fun a => by fin_cases a; rfl) _ _
theorem before_1 (c : Dev nD) (d) : (dats m 0 c).before (1 : Fin 2) t0_0 d = swArr m c := by
  unfold Dat.before; rw [if_pos (fetch0_1 t0_0)]
  exact Memref.readAt_unit_zero (Elt F) main_arg3 (funext fun a => by fin_cases a; rfl) _ _

/-! ## The body -/

def bodyPre (c : Dev nD) : sProp 𝕄 :=
  iprop(Φ₀ m c ∗ (dats m 0 c).owesAt () t0_0.castSucc
    ∗ (∃ d, own c sxM fullShare ((dats m 0 c).before (0 : Fin 2) t0_0 d))
    ∗ (∃ d, own c swM fullShare ((dats m 0 c).before (1 : Fin 2) t0_0 d)))

def bodyPost (c : Dev nD) : sProp 𝕄 :=
  iprop(Φ₁ m c ∗ (dats m 0 c).owesAt () t0_0.succ ∗ sxO m c ∗ swO m c)

/-- What the body leaves of the scratch is scratch. -/
theorem leave_x {c : Dev nD} : (four fun ch => xCv m c ch) ⊢ iprop((four fun ch => ownA c (xsP ch)) ∗ (four fun ch => xSv c ch)) := by
  iintro ⟨⟨A0, V0⟩, ⟨A1, V1⟩, ⟨A2, V2⟩, ⟨A3, V3⟩⟩
  ihave A0 := (any_intro (M := xsP 0) _) $$ A0
  ihave A1 := (any_intro (M := xsP 1) _) $$ A1
  ihave A2 := (any_intro (M := xsP 2) _) $$ A2
  ihave A3 := (any_intro (M := xsP 3) _) $$ A3
  isplitl [A0 A1 A2 A3]
  · iapply sep4 $$ A0 A1 A2 A3
  · iapply sep4 $$ V0 V1 V2 V3

theorem enter_x {c : Dev nD} : iprop((four fun ch => own c (xHP ch) lh (xc m c ch)) ∗ (four fun ch => ownA c (xsP ch)) ∗ (four fun ch => xSv c ch)) ⊢ (four fun ch => xIdle m c ch) := by
  iintro ⟨⟨X0, X1, X2, X3⟩, ⟨A0, A1, A2, A3⟩, V0, V1, V2, V3⟩
  ihave A0 := sep3 $$ X0 A0 V0
  ihave A1 := sep3 $$ X1 A1 V1
  ihave A2 := sep3 $$ X2 A2 V2
  ihave A3 := sep3 $$ X3 A3 V3
  iapply sep4 $$ A0 A1 A2 A3

theorem four_mono {P R : Fin 4 → sProp 𝕄} (h : ∀ ch, P ch ⊢ R ch) : four P ⊢ four R := by
  iintro ⟨A0, A1, A2, A3⟩
  ihave A0 := (h 0) $$ A0
  ihave A1 := (h 1) $$ A1
  ihave A2 := (h 2) $$ A2
  ihave A3 := (h 3) $$ A3
  iapply sep4 $$ A0 A1 A2 A3
theorem three_mono {P R : Fin 3 → sProp 𝕄} (h : ∀ j, P j ⊢ R j) : three P ⊢ three R := by
  iintro ⟨A0, A1, A2⟩
  ihave A0 := (h 0) $$ A0
  ihave A1 := (h 1) $$ A1
  ihave A2 := (h 2) $$ A2
  iapply sep3 $$ A0 A1 A2
theorem four_sep {P R : Fin 4 → sProp 𝕄} : (four fun ch => iprop(P ch ∗ R ch)) = iprop(four P ∗ four R) := by
  rw [← bigSep_four, bigSep_sep', bigSep_four, bigSep_four]
theorem three_sep {P R : Fin 3 → sProp 𝕄} : (three fun j => iprop(P j ∗ R j)) = iprop(three P ∗ three R) := by
  rw [← bigSep_three, bigSep_sep', bigSep_three, bigSep_three]
theorem chunks_sep {P R : Fin 3 → Fin 4 → sProp 𝕄} :
    (three fun j => four fun ch => iprop(P j ch ∗ R j ch)) = iprop((three fun j => four (P j)) ∗ (three fun j => four (R j))) := by
  rw [← three_sep]; exact congrArg three (funext fun j => four_sep)

theorem leave_s {c : Dev nD} : (three fun j => four fun ch => sD m c j ch)
    ⊢ iprop((three fun j => four fun ch => ownA c (sP j ch)) ∗ (three fun j => four fun ch => semVal (cell c (some (false, j, ch))) 0)) :=
  (Entails.of_eq chunks_sep).trans (sep_mono_left (three_mono fun j => four_mono fun ch => any_intro (M := sP j ch) _))
theorem leave_r {c : Dev nD} : (three fun j => four fun ch => rD m c j ch)
    ⊢ iprop((three fun j => four fun ch => ownA c (rP j ch)) ∗ (three fun j => four fun ch => semVal (cell c (some (true, j, ch))) 0)) :=
  (Entails.of_eq chunks_sep).trans (sep_mono_left (three_mono fun j => four_mono fun ch => any_intro (M := rP j ch) _))

set_option maxHeartbeats 1000000 in
theorem body_sound (c : Dev nD) : bodyPre m c ⊢ wpB c (at' (cc0_body (F := F))) (fun _ => bodyPost m c) := by
  unfold bodyPre Φ₀ held paid Dat.owesAt Pipeline.owesWithin
  iintro ⟨⟨⟨⟨%K, #HE⟩, Hkept, Hx, Hw, ⟨Hoc, Hod⟩, ⟨Vx, Vw, ⟨Vo0, Vo1⟩⟩, ⟨Hab, Has, Har⟩, ⟨Hbt, Htok⟩, Hcb, Hcr⟩, Sx, Sxf, Sw, Swf, Ss, Sr, ⟨So0, So1⟩⟩, ⟨%W, -, HO⟩, ⟨%d0, H0⟩, ⟨%d1, H1⟩⟩
  rw [before_0, before_1]
  ihave Hx := (enter_x m) $$ [Hx Sx Vx]
  · iapply sep3 $$ Hx Sx Vx
  icases Sw with ⟨Sw0, Sw1⟩
  icases Vw with ⟨Vw0, Vw1⟩
  ihave Sw0 := sep2 $$ Sw0 Vw0
  ihave Sw1 := sep2 $$ Sw1 Vw1
  ihave Sw := sep2 $$ Sw0 Sw1
  ihave H0 := sep2 $$ H0 H1
  ihave Sxf := sep2 $$ Sxf Swf
  ihave H0 := sep2 $$ H0 Sxf
  ihave Hw := sep2 $$ Hw H0
  ihave Hin := sep3 $$ Hx Sw Hw
  ihave Hcr := sep2 $$ Hcr Har
  ihave Hcr := (Entails.of_eq (chunks_sep (P := fun j ch => cred (tallyAt (cell c (some (true, j, ch))) () N)) (R := fun j ch => atPos ER (cell c (some (true, j, ch))) 0 ∅ 0)).symm) $$ Hcr
  ihave Hex := sep4 $$ Hcb Hab Has Hcr
  ihave Hex := sep3 $$ Hbt Htok Hex
  ihave Hex := sep3 $$ Sr Ss Hex
  ihave So0 := sep2 $$ So0 Vo0
  ihave So1 := sep2 $$ So1 Vo1
  ihave So := sep2 $$ So0 So1
  ihave Hout := sep3 $$ So Hoc Hod
  iapply body_run $$ HE Hin Hex Hout [HO]
  · iexists W
    iexact HO
  iintro ⟨Hx, ⟨⟨Sw0, Vw0⟩, Sw1, Vw1⟩, ⟨H0, H1⟩, Hq, ⟨G0, G1⟩⟩ ⟨Hs, Hr, Hb⟩ ⟨⟨⟨So0, Vo0⟩, So1, Vo1⟩, Hout⟩ ⟨%W', HO⟩
  ihave Hx := (leave_x m) $$ Hx
  icases Hx with ⟨Sx, Vx⟩
  ihave Hs := (leave_s m) $$ Hs
  icases Hs with ⟨Ss, Vs⟩
  ihave Hr := (leave_r m) $$ Hr
  icases Hr with ⟨Sr, Vr⟩
  ihave Hq := (four_mono fun ch => any_intro (M := xfP ch) _) $$ Hq
  ihave G0 := (any_intro (M := wfP 0) _) $$ G0
  ihave G1 := (any_intro (M := wfP 1) _) $$ G1
  ihave Hout := (o_leave m c) $$ Hout
  ihave Sw := sep2 $$ Sw0 Sw1
  ihave G := sep2 $$ G0 G1
  ihave So := sep2 $$ So0 So1
  ihave S := sep3 $$ Ss Sr So
  ihave S := sep3 $$ Sw G S
  ihave S := sep3 $$ Sx Hq S
  ihave Vw := sep2 $$ Vw0 Vw1
  ihave Vo := sep2 $$ Vo0 Vo1
  ihave V := sep3 $$ Vx Vw Vo
  ihave V := sep3 $$ V Vs Vr
  ihave Hk := sep3 $$ Hkept Hout Hb
  unfold bodyPost Φ₁ Dat.owesAt Pipeline.owesWithin
  isplitl [Hk V S]
  · iapply sep3 $$ Hk V S
  isplitl [HO]
  · rw [show (dats m 0 c).owed t0_0.succ = owedOf c [] from rfl]
    iexists W'
    isplitr; · ipureintro; exact fun _ _ => Or.inl trivial
    iexact HO
  iapply sep2 $$ H0 H1

set_option maxRecDepth 8000 in
theorem body_obligation (c : Dev nD) : BodyObligation (dats (F := F) m 0 c) (defs₀ (F := F)) 𝒱₀ () Set.univ := fun t => by
  rw [fin_N0 t]
  rw [bigSep_W0, bigSep_W0]
  exact body_sound m c

/-! ## The side conditions -/

theorem share_eq (c : Dev nD) (w : Fin cfg0.W) : (dats m 0 c).share w = fullShare := by unfold Dat.share; split <;> rfl

theorem enter (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(held m c ∗ emp) := by
  rw [Pipeline.unscopedRestP_none, unscopedRest0_eq]
  unfold G' held
  rw [bigSep_key]
  iintro ⟨⟨Hx, Hw, Ho⟩, #Hlev, Hcr, -, ⟨%K, #HR⟩, ⟨Hl, Hp⟩, Hpaid⟩
  ihave Hcr := (creds c) $$ Hcr
  ihave Hx := (x_enter m c) $$ Hx
  icases Hx with ⟨Hx, Kx⟩
  ihave Hw := (w_enter m c) $$ Hw
  icases Hw with ⟨Hw, Kw⟩
  ihave Ho := (o_enter m c) $$ Ho
  imodintro
  isplitl
  · isplitr
    · iexists K
      unfold env
      isplitl; · iexact HR
      iexact Hlev
    ihave Kx := sep2 $$ Kx Kw
    ihave Hpaid := sep2 $$ Hpaid Hcr
    ihave Hl := sep3 $$ Hl Hp Hpaid
    ihave Hw := sep3 $$ Hw Ho Hl
    iapply sep3 $$ Kx Hx Hw
  · iempintro

theorem begin (c : Dev nD) :
    iprop(held m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  iapply sep2 $$ Hs Hr

/-- What a device has after the kernel. -/
abbrev done (c : Dev nD) : sProp 𝕄 :=
  iprop((kept m c ∗ (((c : Thread nD τ).loc main_v1) ↦{fullShare} outArr m c)) ∗ unscopedSems0 c)

theorem finish (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = Φ₁ m c from rfl, scratch_eq, ownSems_list, done, barSems_eq]
  unfold Φ₁
  iintro ⟨⟨Hk, Ho, Hb⟩, ⟨⟨Vx, Vw, Vo⟩, Vs, Vr⟩, Hs⟩
  ihave Hk := sep2 $$ Hk Ho
  ihave Hk := sep2 $$ Hk Hb
  ihave Vr := sep3 $$ Vs Vr Vo
  ihave V := sep3 $$ Vx Vw Vr
  iapply sep3 $$ Hk V Hs

theorem waits (c : Dev nD) : (levAts L lv : sProp 𝕄) ⊢ Pipeline.cellsWaits cfgs (dats m) () 0 c :=
  Pipeline.cellsWaits_intro cfgs (dats m) () 0 c fun w s t => by
    have h : ∃ l, (dats m 0 c).owed t = owedOf c l := by
      rcases t with ⟨_ | _, ht⟩
      · exact ⟨debts, rfl⟩
      · exact ⟨[], rfl⟩
    obtain ⟨l, hl⟩ := h
    rw [hl]
    exact mayWait_local c _ (by fin_cases w <;> fin_cases s <;> decide) l

/-- What is read off the memory at the end. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outArr m c) ∧ ∀ sm : SemLoc sig, sm.isScoped .tc = false → s.sem ((c.tc : Thread nD τ), sm) = 0

theorem read_one (ℓ : Loc nD τ sig) (q : PosShare TreeShare) (f : Buf (Elt F) ℓ) (s' : Phys nD τ sig (Elt F)) :
    iprop((ℓ ↦{q} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s' q
  rw [bigSep_singleton] at h
  iintro H
  ihave H := h $$ H
  icases H with ⟨%h, H⟩
  isplitr
  · ipureintro; exact h () (Finset.mem_singleton_self _)
  iexact H

theorem read_done (c : Dev nD) (s' : Phys nD τ sig (Elt F)) :
    iprop(done m c ∗ emp ∗ SI s') ⊢ |={Set.univ}=> iprop(⌜Final m c s'.mem⌝ ∗ SI s') := by
  iintro ⟨⟨⟨⟨Hx, Hw⟩, Ho⟩, Hu⟩, -, HSI⟩
  ihave H := (read_one _ _ _ s') $$ [Hx HSI]
  · iapply sep2 $$ Hx HSI
  icases H with ⟨%hx, HSI⟩
  ihave H := (read_one _ _ _ s') $$ [Hw HSI]
  · iapply sep2 $$ Hw HSI
  icases H with ⟨%hw, HSI⟩
  ihave H := (read_one _ _ _ s') $$ [Ho HSI]
  · iapply sep2 $$ Ho HSI
  icases H with ⟨%ho, HSI⟩
  imod (Pipeline.unscopedSems0_read (X := unscopedSems0 c) (c := c) fupd_intro s') $$ [Hu HSI] with H
  · iapply sep2 $$ Hu HSI
  icases H with ⟨%hu, HSI⟩
  imodintro
  isplitr
  · ipureintro; exact ⟨⟨hx, hw, ho⟩, hu⟩
  iexact HSI

/-! ## The run -/

/-- The arguments unchanged, the result its blocks. -/
def Post (r : PUnit × MemSt nD τ sig (Elt F)) : Prop :=
  (∀ c : Dev nD, r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_v1) = outArr m c) ∧ r.2.sem = fun _ => 0

set_option maxRecDepth 8000 in
theorem run_main (ρ : Dev nD → PrngReg) : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_cells m) $$ HX with HG
      imodintro
      isplitl [HP]; · iexact HP
      iexact HG)
    (hglob := glob m)
    (hA := fun _ _ => rfl) (hpf := fun _ k => k.elim0)
    (X := held m) (Y := done m) (Z := fun _ => iprop(emp))
    (hX := enter m ρ) (hin := begin m) (hout := finish m)
    (QY := Final m)
    (hY := read_done m)
    (hQ := fun s h hs => ⟨fun c => ⟨(h c).2.2.1.1, (h c).2.2.1.2.1, ((h c).1 0).trans ((dats m 0 c).arrAt_in (0 : Fin 2) rfl _),
      ((h c).1 1).trans ((dats m 0 c).arrAt_in (1 : Fin 2) rfl _), (h c).2.2.1.2.2⟩, sem_eq_zero hs fun c => (h c).2.2.2⟩)

end Cert.KProof
-- ==== Proof.Ref.lean ====
/-
# The reference

What the reference leaves, at each index, over the extended reals where its clip changes nothing.
-/
module

public import proofs.«01_k».proof.Proof.Gen.ReferenceIdeal.Run
public import Idealize.ShloMosaic.Lib.IdealHost
public import Idealize.ShloMosaic.Lib.MatmulPlain
public import Idealize.ShloMosaic.PureOps.Ideal

@[expose] public section

noncomputable section

namespace Cert.RefProof

open Idealize.ShloMosaic Idealize.ShloMosaic.TcCoe Cert.ReferenceIdeal Cert.ReferenceIdeal.Gen
open Idealize.ShloMosaic.ValueIdx
open scoped BigOperators

/-- The activation, at an extended real. -/
def act (y : EReal) : EReal := Ideal.div y (1 + Ideal.exp (-y))

theorem exp_nonneg (y : EReal) : 0 ≤ Ideal.exp y := by
  induction y using EReal.rec with
  | bot => simp
  | top => simp
  | coe r => rw [Ideal.exp_coe]; exact EReal.coe_nonneg.mpr (Real.exp_pos r).le

theorem one_add_exp_ne (y : EReal) : 1 + Ideal.exp y ≠ 0 := by
  have h : (0 : EReal) < 1 + Ideal.exp y := lt_of_lt_of_le zero_lt_one (le_add_of_nonneg_right (exp_nonneg y))
  exact h.ne'

/-- The kernel's spelling of the activation. -/
theorem act_kernel (y : EReal) : y * Ideal.div 1 (1 + Ideal.exp (0 - y)) = act y := by
  rw [zero_sub, Ideal.mul_one_div (one_add_exp_ne _)]; rfl

/-- The reference's, where the clip changes nothing. -/
theorem act_reference {y lo hi : EReal} (hl : lo ≤ y) (hh : y ≤ hi) : Ideal.div y (1 + Ideal.exp (-(min hi (max lo y)))) = act y := by
  rw [max_eq_right hl, min_eq_right hh]; rfl

/-! ## The reference -/

theorem first_eq (i j : (⟨1, ![1]⟩ : Shape).Idx) : i = j := by
  funext a
  match a with
  | 0 => exact Subsingleton.elim (α := Fin 1) _ _

/-- The reference's result, as a term of its arguments. -/
def refOut (x : S4096x4096.Idx → EReal) (w : S4096x2048.Idx → EReal) (a b : S1.Idx → EReal) : S4096x2048.Idx → EReal :=
  let y := mulf (F := Ideal) (φ := .f32) (Host.dotGeneral (φ₁ := .f32) (φ₂ := .f32) dot_S4096x4096_S4096x2048_S4096x2048_1_0_0_1_n_n none x w)
    (broadcastInDim S4096x2048 ![0, 1] bcast_S1x1_S4096x2048_0_1 (broadcastInDim S1x1 ![1] bcast_S1_S1x1_1 (mulf (F := Ideal) (φ := .f32) a b)))
  Host.divf (F := Ideal) (φ := .f32) y (addf (broadcastInDim S4096x2048 ![] bcast_S_S4096x2048 (constant S_ .f32 0x3F800000#32))
    (Host.exp (Host.negf (minimumf (broadcastInDim S4096x2048 ![] bcast_S_S4096x2048 (id (constant S_ .f32 0x42700000#32)))
      (maximumf (broadcastInDim S4096x2048 ![] bcast_S_S4096x2048 (id (constant S_ .f32 0xC2700000#32))) y)))))

abbrev lo : EReal := Ideal.ofBits .f32 0xC2700000#32
abbrev hi : EReal := Ideal.ofBits .f32 0x42700000#32

/-- The scales' product. -/
abbrev sc (a b : S1.Idx → EReal) : EReal := a (Shape.Idx.first (by decide : 0 < S1.numel)) * b (Shape.Idx.first (by decide : 0 < S1.numel))

theorem refOut_val (x w a b) (R : Fin 4096) (C : Fin 2048)
    (hl : lo ≤ (∑ t : Fin 4096, x (ix2 R t) * w (ix2 t C)) * sc a b) (hh : (∑ t : Fin 4096, x (ix2 R t) * w (ix2 t C)) * sc a b ≤ hi) :
    refOut x w a b (ix2 R C) = act ((∑ t : Fin 4096, x (ix2 R t) * w (ix2 t C)) * sc a b) := by
  have h := Ideal.matmul_plain_apply (M := 4096) (K := 4096) (N := 2048) (φ₁ := .f32) (φ₂ := .f32) none x w (fun _ => 0) R C
  rw [zero_add] at h
  have e : (mulf (F := Ideal) (φ := .f32) (Host.dotGeneral (φ₁ := .f32) (φ₂ := .f32) dot_S4096x4096_S4096x2048_S4096x2048_1_0_0_1_n_n none x w)
      (broadcastInDim S4096x2048 ![0, 1] bcast_S1x1_S4096x2048_0_1 (broadcastInDim S1x1 ![1] bcast_S1_S1x1_1 (mulf (F := Ideal) (φ := .f32) a b)))) (ix2 R C)
      = (∑ t : Fin 4096, x (ix2 R t) * w (ix2 t C)) * sc a b := by
    refine congrArg₂ (· * ·) h (congrArg (fun i => a i * b i) (first_eq _ _))
  refine Eq.trans ?_ (act_reference hl hh)
  rw [← e]
  refine congrArg (fun z : EReal => Ideal.div _ (z + _)) Ideal.ofBits_one_f32

end Cert.RefProof
-- ==== Proof.Value.lean ====
/-
# The value

Over the extended reals, under the precondition that the clip of the reference changes nothing: every block of the kernel's result is
the reference's, at the same place.
-/
module

public import proofs.«01_k».proof.Proof.Run
public import proofs.«01_k».proof.Proof.Ref
public import proofs.«01_k».proof.Proof.Gen.Pre_clip_idle_KernelIdeal
public import proofs.«01_k».proof.Defs
public import Idealize.ShloMosaic.Lib.IdealHost
public import Idealize.ShloMosaic.Lib.MatmulPlain
public import Idealize.ShloMosaic.Lib.ReduceAll
public import Idealize.ShloMosaic.Lib.KernelVsHost
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open Cert.RefProof (act act_kernel sc lo hi refOut refOut_val)
open scoped BigOperators

/-! ## The kernel's blocks -/

/-- The chunk's product with the column block, scaled and activated. -/
theorem block_act (s : EReal) (X : S256x4096.Idx → EReal) (W : S4096x512.Idx → EReal) (r : Fin 256) (l : Fin 512) :
    mulf (F := Ideal) (mulf (matmul (φ₁ := .fp8e4m3) (φ₂ := .fp8e4m3) dot_S256x4096_S4096x512_S256x512_1_0_0_1_n_n none X W (constant S256x512 .f32 0x00000000#32)) (broadcast S256x512 s))
      (divf (broadcast S256x512 (Scalar.ofBits .f32 0x3F800000#32 : Ideal .f32)) (addf (broadcast S256x512 (Scalar.ofBits .f32 0x3F800000#32 : Ideal .f32))
        (exp (subf (broadcast S256x512 (Scalar.ofBits .f32 0x00000000#32 : Ideal .f32)) (mulf (matmul (φ₁ := .fp8e4m3) (φ₂ := .fp8e4m3) dot_S256x4096_S4096x512_S256x512_1_0_0_1_n_n none X W (constant S256x512 .f32 0x00000000#32)) (broadcast S256x512 s)))))) (ix2 r l)
      = act ((∑ t : Fin 4096, X (ix2 r t) * W (ix2 t l)) * s) := by
  have h := Ideal.matmul_plain_apply (M := 256) (K := 4096) (N := 512) (φ₁ := .fp8e4m3) (φ₂ := .fp8e4m3) none X W (constant S256x512 .f32 0x00000000#32) r l
  have e1 : (Scalar.ofBits .f32 0x3F800000#32 : Ideal .f32) = (1 : EReal) := Ideal.ofBits_one_f32
  have e0 : (Scalar.ofBits .f32 0x00000000#32 : Ideal .f32) = (0 : EReal) := Ideal.ofBits_zero_f32
  rw [show (constant S256x512 .f32 0x00000000#32 : FVec Ideal S256x512 .f32) (ix2 r l) = (0 : EReal) from Ideal.ofBits_zero_f32, zero_add] at h
  rw [e1, e0, ← h]
  exact act_kernel _

/-- A column block of `w` in its two shapes. -/
theorem wq_eq (m : (ℓ : Loc nD τ sig) → Buf (Elt Ideal) ℓ) (c k) : shapeCast S4096x512 (wq m c k) shapeCasts_S1x4096x512_S4096x512 = wc m c k := by
  unfold wq k0_pay3
  rw [shapeCast_shapeCast]
  funext i
  show wc m c k ((Shape.reshapeEquiv _).symm (Shape.reshapeEquiv _ i)) = _
  rw [Equiv.symm_apply_apply]

variable (m : (ℓ : Loc nD τ sig) → Buf (Elt Ideal) ℓ)

theorem xq_eq (c ch) : xq m c ch = xc m c ch := by
  exact shapeCast_self (xc m c ch) shapeCasts_S256x4096_S256x4096

theorem own_val (c ch) (r : Fin 256) (l : Fin 512) :
    ownc m c ch (ix2 r l) = act ((∑ t : Fin 4096, xc m c ch (ix2 r t) * wc m c c (ix2 t l)) * sc (sxArr m c) (swArr m c)) := by
  unfold ownc k0_pay33
  rw [wq_eq, shapeCast_self, xq_eq]
  exact block_act (scl m c) (xc m c ch) (wc m c c) r l

theorem sent_val (c k ch) (r : Fin 256) (l : Fin 512) :
    k0_pay40 (blk m c k ch) (ix2 r l) = act ((∑ t : Fin 4096, xc m c ch (ix2 r t) * wc m c k (ix2 t l)) * sc (sxArr m c) (swArr m c)) := by
  unfold k0_pay40 blk k0_pay4
  rw [wq_eq, shapeCast_self, shapeCast_shapeCast, xq_eq]
  exact block_act (scl m c) (xc m c ch) (wc m c k) r l

theorem outBlk_val (c k ch) (r : Fin 256) (l : Fin 512) :
    outBlk m c k ch (ix2 r l) = act ((∑ t : Fin 4096, xc m k ch (ix2 r t) * wc m k c (ix2 t l)) * sc (sxArr m k) (swArr m k)) := by
  unfold outBlk
  split
  · rename_i h; subst h; exact own_val m k ch r l
  · exact sent_val m k c ch r l

/-! ## Places -/

abbrev lrow (ch : Fin 4) (r : Fin 256) : Fin 1024 := ⟨256 * ch.val + r.val, by omega⟩
abbrev grow (k : Fin 4) (R : Fin 1024) : Fin 4096 := ⟨1024 * k.val + R.val, by omega⟩
abbrev gcol (c : Fin 4) (l : Fin 512) : Fin 2048 := ⟨512 * c.val + l.val, by omega⟩

theorem ix2_ext {a b : ℕ} {i : (⟨2, ![a, b]⟩ : Shape).Idx} {r : Fin a} {l : Fin b} (h0 : (i 0).val = r.val) (h1 : (i 1).val = l.val) : i = ix2 r l := by
  rw [eq_ix2 i]
  exact congrArg₂ ix2 (Fin.ext h0) (Fin.ext h1)

theorem xR_emb (ch) (r : Fin 256) (t : Fin 4096) : (xR ch).emb (ix2 r t) = (ix2 (lrow ch r) t : S1024x4096.Idx) :=
  ix2_ext (by show 256 * ch.val + 1 * r.val = 256 * ch.val + r.val; omega) (by show 0 + 1 * t.val = t.val; omega)
theorem oR_emb (ch) (r : Fin 256) (l : Fin 512) : (oR ch).emb (ix2 r l) = (ix2 (lrow ch r) l : S1024x512.Idx) :=
  ix2_ext (by show 256 * ch.val + 1 * r.val = 256 * ch.val + r.val; omega) (by show 0 + 1 * l.val = l.val; omega)
theorem dR_emb (k) (R : Fin 1024) (l : Fin 512) : (dR k).emb (ix2 R l) = (ix2 (grow k R) l : S4096x512.Idx) :=
  ix2_ext (by show 1024 * k.val + 1 * R.val = 1024 * k.val + R.val; omega) (by show 0 + 1 * l.val = l.val; omega)
theorem cR_emb (c) (t : Fin 4096) (l : Fin 512) : (cR c).emb (ix2 t l) = (ix2 t (gcol c l) : S4096x2048.Idx) :=
  ix2_ext (by show 0 + 1 * t.val = t.val; omega) (by show 512 * c.val + 1 * l.val = 512 * c.val + l.val; omega)

theorem rows_at {α : Type} (k : Fin 4) (x : (⟨2, ![4096, 4096]⟩ : Shape).Idx → α) (R : Fin 1024) (t : Fin 4096) :
    Layout.block ⟨2, ![1024, 4096]⟩ ⟨2, ![4096, 4096]⟩ 0 4 k x (by decide) (ix2 R t) = x (ix2 (grow k R) t) :=
  congrArg x (ix2_ext (by show k.val * 1024 + R.val = 1024 * k.val + R.val; omega) rfl)
theorem cols_at {α : Type} (c : Fin 4) (v : (⟨2, ![4096, 2048]⟩ : Shape).Idx → α) (R : Fin 4096) (l : Fin 512) :
    Layout.block ⟨2, ![4096, 512]⟩ ⟨2, ![4096, 2048]⟩ 1 4 c v (by decide) (ix2 R l) = v (ix2 R (gcol c l)) :=
  congrArg v (ix2_ext rfl (by show c.val * 512 + l.val = 512 * c.val + l.val; omega))

/-! ## The precondition -/

theorem bit_true {b : Bool} (h : BitVec.ofBool b = 1#1) : b = true := by
  cases b
  · exact absurd h (by decide)
  · rfl

theorem pre_bounds (hm : Cert.Pre_KernelIdeal_clip_idle_KernelIdeal m) (k : Dev nD) (R : Fin 1024) (C : Fin 2048) :
    lo ≤ (∑ t : Fin 4096, xArr m k (ix2 R t) * wArr m k (ix2 t C)) * sc (sxArr m k) (swArr m k)
      ∧ (∑ t : Fin 4096, xArr m k (ix2 R t) * wArr m k (ix2 t C)) * sc (sxArr m k) (swArr m k) ≤ hi := by
  have h := Host.reduce_andi_all (t := ⟨0, ![]⟩) _ _ _ _ (Shape.Idx.first (by decide)) (congrFun (hm k) (Shape.Idx.first (by decide))) (ix2 R C)
  have hd := Ideal.matmul_plain_apply (M := 1024) (K := 4096) (N := 2048) (φ₁ := .f32) (φ₂ := .f32) none (xArr m k) (wArr m k) (fun _ => 0) R C
  rw [zero_add] at hd
  obtain ⟨h₁, h₂⟩ := IntOp.andi_eq_one.mp h
  have e : (∑ t : Fin 4096, xArr m k (ix2 R t) * wArr m k (ix2 t C)) * sc (sxArr m k) (swArr m k)
      = (mulf (F := Ideal) (φ := .f32) (Host.dotGeneral (φ₁ := .f32) (φ₂ := .f32) Cert.Pre_clip_idle_KernelIdeal.dot_S1024x4096_S4096x2048_S1024x2048_1_0_0_1_n_n none (xArr m k) (wArr m k))
        (broadcastInDim Cert.Pre_clip_idle_KernelIdeal.S1024x2048 ![0, 1] Cert.Pre_clip_idle_KernelIdeal.Facts.bcast_S1x1_S1024x2048_0_1
          (broadcastInDim Cert.Pre_clip_idle_KernelIdeal.S1x1 ![1] Cert.Pre_clip_idle_KernelIdeal.Facts.bcast_S1_S1x1_1 (mulf (F := Ideal) (φ := .f32) (sxArr m k) (swArr m k))))) (ix2 R C) :=
    congrArg₂ (· * ·) hd.symm (congrArg (fun i => sxArr m k i * swArr m k i) (Cert.RefProof.first_eq _ _))
  rw [e]
  exact ⟨of_decide_eq_true (bit_true h₁), of_decide_eq_true (bit_true h₂)⟩

/-! ## The result -/

theorem out_val (x w a b) (hm : Cert.Pre_KernelIdeal_clip_idle_KernelIdeal m)
    (hx : ∀ k : Dev nD, xArr m k = Layout.block ⟨2, ![1024, 4096]⟩ ⟨2, ![4096, 4096]⟩ 0 4 k x) (hw : ∀ k, wArr m k = w)
    (ha : ∀ k, sxArr m k = a) (hb : ∀ k, swArr m k = b) (c : Dev nD) :
    outArr m c = Layout.block ⟨2, ![4096, 512]⟩ ⟨2, ![4096, 2048]⟩ 1 4 c (refOut x w a b) := by
  have h (k ch : Fin 4) (r : Fin 256) (l : Fin 512) : outArr m c ((dR k).emb ((oR ch).emb (ix2 r l)))
      = Layout.block ⟨2, ![4096, 512]⟩ ⟨2, ![4096, 2048]⟩ 1 4 c (refOut x w a b) (by decide) ((dR k).emb ((oR ch).emb (ix2 r l))) := by
    have hp := pre_bounds m hm k (lrow ch r) (gcol c l)
    have hs : (∑ t : Fin 4096, xArr m k (ix2 (lrow ch r) t) * wArr m k (ix2 t (gcol c l))) = ∑ t : Fin 4096, x (ix2 (grow k (lrow ch r)) t) * w (ix2 t (gcol c l)) :=
      Finset.sum_congr rfl fun t _ => by rw [hx, hw, rows_at]
    rw [hs, ha, hb] at hp
    rw [show outArr m c ((dR k).emb ((oR ch).emb (ix2 r l))) = outBlk m c k ch (ix2 r l) from (cutD.glue_emb _ k _).trans (cutO.glue_emb _ ch _),
      oR_emb, dR_emb, cols_at, outBlk_val, refOut_val _ _ _ _ _ _ hp.1 hp.2, ← hs, ha, hb]
    refine congrArg (fun z : EReal => act (z * _)) (Finset.sum_congr rfl fun t _ => ?_)
    show xArr m k ((xR ch).emb (ix2 r t)) * wArr m k ((cR c).emb (ix2 t l)) = _
    rw [xR_emb, cR_emb]
  funext i
  obtain ⟨R, l, rfl⟩ : ∃ (R : Fin 4096) (l : Fin 512), i = ix2 R l := ⟨_, _, eq_ix2 i⟩
  have e : (ix2 R l : S4096x512.Idx) = (dR ⟨R.val / 1024, by omega⟩).emb ((oR ⟨R.val % 1024 / 256, by omega⟩).emb (ix2 ⟨R.val % 256, by omega⟩ l)) := by
    rw [oR_emb, dR_emb]
    refine ix2_ext ?_ rfl
    show R.val = 1024 * (R.val / 1024) + (256 * (R.val % 1024 / 256) + R.val % 256)
    omega
  rw [e]
  exact h _ _ _ _

end Cert.KProof
-- ==== Proof.lean ====
/- The claims, each read of a run: the kernel's own (Proof/Run.lean) for its two printed programs, the
   reference's generated one, and the equation of the two results (Proof/Value.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_clip_idle_KernelIdeal
public import proofs.«01_k».proof.Proof.Gen.Pre_clip_idle_ReferenceIdeal
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The kernel's frame, read of its run at the bit patterns. -/
theorem frame_kernel : Cert.quiescent_Kernel := fun m g _ => by
  rw [Cert.Same.defs, Cert.Same.main]
  exact (θ_run Cert.KernelIdeal.defs _ _).mono
    (fun _ h => ⟨fun c => ⟨(h.1 c).1, (h.1 c).2.1, (h.1 c).2.2.1, (h.1 c).2.2.2.1⟩, h.2⟩)
    (Cert.KProof.run_main (F := Bits) m g)

/-- The same at the extended reals. -/
theorem frame_ideal : Cert.quiescent_KernelIdeal := fun m g _ =>
  (θ_run Cert.KernelIdeal.defs _ _).mono (fun _ h => ⟨fun c => ⟨(h.1 c).1, (h.1 c).2.1, (h.1 c).2.2.1, (h.1 c).2.2.2.1⟩, h.2⟩)
    (Cert.KProof.run_main (F := Ideal) m g)

/-- The reference runs on one device without semaphores. -/
theorem frame_reference : Cert.quiescent_ReferenceIdeal := fun m g _ =>
  (θ_run Cert.ReferenceIdeal.defs _ _).mono (fun _ h => ⟨fun c => (h c).2, sem_eq_zero_of_no_sems rfl _⟩) (Cert.ReferenceIdeal.Value.run (F := Ideal) m g)

/-- Under the precondition the devices' results are the blocks of the reference's. -/
theorem value : Cert.algebraic_KernelIdeal_ReferenceIdeal_pre_clip_idle_KernelIdeal := fun m g m' g' hm h =>
  ⟨Cert.RefProof.refOut (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3)),
    (θ_run Cert.KernelIdeal.defs _ _).mono (fun _ r c => ⟨(r.1 c).2.2.2.2.trans (Cert.KProof.out_val m _ _ _ _ hm (fun k => (h k).1) (fun k => (h k).2.1)
        (fun k => (h k).2.2.1) (fun k => (h k).2.2.2) c), (r.1 c).1, (r.1 c).2.1, (r.1 c).2.2.1, (r.1 c).2.2.2.1⟩)
      (Cert.KProof.run_main (F := Ideal) m g),
    (θ_run Cert.ReferenceIdeal.defs _ _).mono (fun _ r => r 0) (Cert.ReferenceIdeal.Value.run (F := Ideal) m' g')⟩

/-- All the claims. -/
theorem claim : Cert.Claim := ⟨Cert.Kernel.Gen.facts, Cert.KernelIdeal.Gen.facts, Cert.ReferenceIdeal.Gen.facts, Cert.Pre_clip_idle_KernelIdeal.Gen.facts, Cert.Pre_clip_idle_ReferenceIdeal.Gen.facts,
  frame_kernel, frame_ideal, fun m g _ => frame_ideal m g trivial, frame_reference, fun m g _ => frame_reference m g trivial, trivial, value⟩

end Cert.Proof

end
